-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_v160) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x5000x4 : Shape := ⟨3, ![16, 5000, 4]⟩
abbrev S16x100x4 : Shape := ⟨3, ![16, 100, 4]⟩
abbrev S16x100 : Shape := ⟨2, ![16, 100]⟩
abbrev S16x5000 : Shape := ⟨2, ![16, 5000]⟩
abbrev S16x5000x1 : Shape := ⟨3, ![16, 5000, 1]⟩
abbrev S16x4x100 : Shape := ⟨3, ![16, 4, 100]⟩
abbrev S_ : Shape := ⟨0, ![]⟩
abbrev S16x4x128 : Shape := ⟨3, ![16, 4, 128]⟩
abbrev S16x1x100 : Shape := ⟨3, ![16, 1, 100]⟩
abbrev S16x1x128 : Shape := ⟨3, ![16, 1, 128]⟩
abbrev S16x5000x84 : Shape := ⟨3, ![16, 5000, 84]⟩
abbrev S16x5000x21 : Shape := ⟨3, ![16, 5000, 21]⟩
abbrev S1x5000x4 : Shape := ⟨3, ![1, 5000, 4]⟩
abbrev S1x4x128 : Shape := ⟨3, ![1, 4, 128]⟩
abbrev S1x1x128 : Shape := ⟨3, ![1, 1, 128]⟩
abbrev S1x5000x1 : Shape := ⟨3, ![1, 5000, 1]⟩
abbrev S1x5000x84 : Shape := ⟨3, ![1, 5000, 84]⟩
abbrev S1x5000x21 : Shape := ⟨3, ![1, 5000, 21]⟩
abbrev S5000x4 : Shape := ⟨2, ![5000, 4]⟩
abbrev S4x128 : Shape := ⟨2, ![4, 128]⟩
abbrev S1x128 : Shape := ⟨2, ![1, 128]⟩
abbrev S5000x1 : Shape := ⟨2, ![5000, 1]⟩
abbrev S5000x128 : Shape := ⟨2, ![5000, 128]⟩
abbrev S5000 : Shape := ⟨1, ![5000]⟩
abbrev S1 : Shape := ⟨1, ![1]⟩
abbrev S1x1x1 : Shape := ⟨3, ![1, 1, 1]⟩
abbrev S5000x84 : Shape := ⟨2, ![5000, 84]⟩
abbrev S5000x21 : Shape := ⟨2, ![5000, 21]⟩

abbrev nBuf : Space → Nat
  | .hbm => 18
  | .vmem => 14
  | .smem => 0
  | _ => 0

abbrev bufTy : (tb : Table) → Fin (tcTables nBuf tb) → BufTy
  | .hbm, ⟨0, _⟩ => ⟨S16x5000x4, .f32⟩
  | .hbm, ⟨1, _⟩ => ⟨S16x100x4, .f32⟩
  | .hbm, ⟨2, _⟩ => ⟨S16x100, .i32⟩
  | .hbm, ⟨3, _⟩ => ⟨S16x5000, .i32⟩
  | .hbm, ⟨4, _⟩ => ⟨S16x5000x1, .i32⟩
  | .hbm, ⟨5, _⟩ => ⟨S16x5000, .i32⟩
  | .hbm, ⟨6, _⟩ => ⟨S16x5000x1, .i32⟩
  | .hbm, ⟨7, _⟩ => ⟨S16x4x100, .f32⟩
  | .hbm, ⟨8, _⟩ => ⟨S_, .i32⟩
  | .hbm, ⟨9, _⟩ => ⟨S_, .f32⟩
  | .hbm, ⟨10, _⟩ => ⟨S16x4x128, .f32⟩
  | .hbm, ⟨11, _⟩ => ⟨S16x100, .f32⟩
  | .hbm, ⟨12, _⟩ => ⟨S16x1x100, .f32⟩
  | .hbm, ⟨13, _⟩ => ⟨S_, .i32⟩
  | .hbm, ⟨14, _⟩ => ⟨S_, .f32⟩
  | .hbm, ⟨15, _⟩ => ⟨S16x1x128, .f32⟩
  | .hbm, ⟨16, _⟩ => ⟨S16x5000x84, .f32⟩
  | .hbm, ⟨17, _⟩ => ⟨S16x5000x21, .f32⟩
  | .local _ .vmem, ⟨0, _⟩ => ⟨S1x5000x4, .f32⟩
  | .local _ .vmem, ⟨1, _⟩ => ⟨S1x5000x4, .f32⟩
  | .local _ .vmem, ⟨2, _⟩ => ⟨S1x4x128, .f32⟩
  | .local _ .vmem, ⟨3, _⟩ => ⟨S1x4x128, .f32⟩
  | .local _ .vmem, ⟨4, _⟩ => ⟨S1x1x128, .f32⟩
  | .local _ .vmem, ⟨5, _⟩ => ⟨S1x1x128, .f32⟩
  | .local _ .vmem, ⟨6, _⟩ => ⟨S1x5000x1, .i32⟩
  | .local _ .vmem, ⟨7, _⟩ => ⟨S1x5000x1, .i32⟩
  | .local _ .vmem, ⟨8, _⟩ => ⟨S1x5000x1, .i32⟩
  | .local _ .vmem, ⟨9, _⟩ => ⟨S1x5000x1, .i32⟩
  | .local _ .vmem, ⟨10, _⟩ => ⟨S1x5000x84, .f32⟩
  | .local _ .vmem, ⟨11, _⟩ => ⟨S1x5000x84, .f32⟩
  | .local _ .vmem, ⟨12, _⟩ => ⟨S1x5000x21, .f32⟩
  | .local _ .vmem, ⟨13, _⟩ => ⟨S1x5000x21, .f32⟩
  | _, _ => ⟨S16x5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_call1_v0 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_23 : BitVec 32 := 0#32
  let c14_i32 : BitVec 32 := 14#32
  let v76 : BitVec 32 := Scalar.addi c0_i32_23 c14_i32
  let c1_i32 : BitVec 32 := 1#32
  ⟨c0_i32_23, v76, c1_i32⟩
@[reducible] def k0_t2_loop : Scf.Loop 32 :=
  let c0_i32_26 : BitVec 32 := 0#32
  let c14_i32_27 : BitVec 32 := 14#32
  let v81 : BitVec 32 := Scalar.addi c0_i32_26 c14_i32_27
  let c1_i32_28 : BitVec 32 := 1#32
  ⟨c0_i32_26, v81, c1_i32_28⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x5000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x5000x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x5000x84 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x5000x21 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16x5000x4 : Shape := ⟨3, ![16, 5000, 4]⟩
abbrev S16x100x4 : Shape := ⟨3, ![16, 100, 4]⟩
abbrev S16x100 : Shape := ⟨2, ![16, 100]⟩
abbrev S4 : Shape := ⟨1, ![4]⟩
abbrev S16x5000 : Shape := ⟨2, ![16, 5000]⟩
abbrev S16x5000x1 : Shape := ⟨3, ![16, 5000, 1]⟩
abbrev S16x100x1 : Shape := ⟨3, ![16, 100, 1]⟩
abbrev S16x1x100 : Shape := ⟨3, ![16, 1, 100]⟩
abbrev S16x5000x100 : Shape := ⟨3, ![16, 5000, 100]⟩
abbrev S_ : Shape := ⟨0, ![]⟩
abbrev S1 : Shape := ⟨1, ![1]⟩
abbrev S1x1x1 : Shape := ⟨3, ![1, 1, 1]⟩
abbrev S1x1x4 : Shape := ⟨3, ![1, 1, 4]⟩
abbrev S1x1x21 : Shape := ⟨3, ![1, 1, 21]⟩
abbrev S16x5000x21 : Shape := ⟨3, ![16, 5000, 21]⟩
abbrev S16x5000x21x1 : Shape := ⟨4, ![16, 5000, 21, 1]⟩
abbrev S1x16x1x5000x1x21x1x1 : Shape := ⟨8, ![1, 16, 1, 5000, 1, 21, 1, 1]⟩
abbrev S1x16x1x5000x1x21x4x1 : Shape := ⟨8, ![1, 16, 1, 5000, 1, 21, 4, 1]⟩
abbrev S16x5000x21x4 : Shape := ⟨4, ![16, 5000, 21, 4]⟩
abbrev S16x5000x1x4 : Shape := ⟨4, ![16, 5000, 1, 4]⟩
abbrev S16x5000x84 : Shape := ⟨3, ![16, 5000, 84]⟩

abbrev nBuf : Space → Nat
  | .hbm => 280
  | .vmem => 0
  | .smem => 0
  | _ => 0

abbrev hbmTy0_0 (i : Nat) : BufTy := match i % 128 with
  | 0 => ⟨S16x5000x4, .f32⟩
  | 1 => ⟨S16x100x4, .f32⟩
  | 2 => ⟨S16x100, .i32⟩
  | 3 => ⟨S4, .f32⟩
  | 4 => ⟨S16x5000, .i32⟩
  | 5 => ⟨S16x5000, .i32⟩
  | 6 => ⟨S16x5000x1, .f32⟩
  | 7 => ⟨S16x5000x1, .f32⟩
  | 8 => ⟨S16x5000x1, .f32⟩
  | 9 => ⟨S16x5000x1, .f32⟩
  | 10 => ⟨S16x100x1, .f32⟩
  | 11 => ⟨S16x100x1, .f32⟩
  | 12 => ⟨S16x100x1, .f32⟩
  | 13 => ⟨S16x100x1, .f32⟩
  | 14 => ⟨S16x1x100, .f32⟩
  | 15 => ⟨S16x1x100, .f32⟩
  | 16 => ⟨S16x1x100, .f32⟩
  | 17 => ⟨S16x1x100, .f32⟩
  | 18 => ⟨S16x5000x1, .f32⟩
  | 19 => ⟨S16x5000x1, .f32⟩
  | 20 => ⟨S16x5000x1, .f32⟩
  | 21 => ⟨S16x5000, .f32⟩
  | 22 => ⟨S16x1x100, .f32⟩
  | 23 => ⟨S16x1x100, .f32⟩
  | 24 => ⟨S16x1x100, .f32⟩
  | 25 => ⟨S16x100, .f32⟩
  | 26 => ⟨S16x5000x100, .f32⟩
  | 27 => ⟨S16x5000x100, .f32⟩
  | 28 => ⟨S16x5000x100, .f32⟩
  | 29 => ⟨S16x5000x100, .f32⟩
  | 30 => ⟨S16x5000x100, .f32⟩
  | 31 => ⟨S16x5000x100, .f32⟩
  | 32 => ⟨S16x5000x100, .f32⟩
  | 33 => ⟨S16x5000x100, .f32⟩
  | 34 => ⟨S16x5000x100, .f32⟩
  | 35 => ⟨S16x5000x100, .f32⟩
  | 36 => ⟨S16x5000x100, .f32⟩
  | 37 => ⟨S16x5000x100, .f32⟩
  | 38 => ⟨S16x5000x100, .f32⟩
  | 39 => ⟨S_, .f32⟩
  | 40 => ⟨S16x5000x100, .f32⟩
  | 41 => ⟨S16x5000x100, .f32⟩
  | 42 => ⟨S16x5000x100, .f32⟩
  | 43 => ⟨S_, .f32⟩
  | 44 => ⟨S16x5000x100, .f32⟩
  | 45 => ⟨S16x5000x100, .f32⟩
  | 46 => ⟨S16x5000x100, .f32⟩
  | 47 => ⟨S16x5000x1, .f32⟩
  | 48 => ⟨S16x1x100, .f32⟩
  | 49 => ⟨S16x5000x100, .f32⟩
  | 50 => ⟨S16x5000x100, .f32⟩
  | 51 => ⟨S16x5000x100, .f32⟩
  | 52 => ⟨S16x5000x100, .f32⟩
  | 53 => ⟨S16x5000x100, .f32⟩
  | 54 => ⟨S16x5000x1, .f32⟩
  | 55 => ⟨S16x5000x1, .i32⟩
  | 56 => ⟨S16x5000, .i32⟩
  | 57 => ⟨S_, .f32⟩
  | 58 => ⟨S16x5000, .f32⟩
  | 59 => ⟨S_, .f32⟩
  | 60 => ⟨S16x5000, .f32⟩
  | 61 => ⟨S16x5000, .i1⟩
  | 62 => ⟨S16x5000, .i32⟩
  | 63 => ⟨S16x5000, .i32⟩
  | 64 => ⟨S16x5000, .i32⟩
  | 65 => ⟨S16x5000, .i32⟩
  | 66 => ⟨S16x5000, .i32⟩
  | 67 => ⟨S16x5000, .i32⟩
  | 68 => ⟨S16x5000, .i32⟩
  | 69 => ⟨S16x5000, .i32⟩
  | 70 => ⟨S16x5000, .i32⟩
  | 71 => ⟨S_, .i32⟩
  | 72 => ⟨S16x5000, .i32⟩
  | 73 => ⟨S16x5000, .i1⟩
  | 74 => ⟨S16x5000, .i1⟩
  | 75 => ⟨S_, .f32⟩
  | 76 => ⟨S16x5000, .f32⟩
  | 77 => ⟨S16x5000, .i1⟩
  | 78 => ⟨S_, .f32⟩
  | 79 => ⟨S16x5000, .f32⟩
  | 80 => ⟨S16x5000, .i1⟩
  | 81 => ⟨S16x5000, .i1⟩
  | 82 => ⟨S16x5000, .i32⟩
  | 83 => ⟨S16x5000, .i32⟩
  | 84 => ⟨S16x5000, .i32⟩
  | 85 => ⟨S16x5000, .i32⟩
  | 86 => ⟨S16x5000, .i32⟩
  | 87 => ⟨S16x5000, .i32⟩
  | 88 => ⟨S16x5000, .i32⟩
  | 89 => ⟨S16x5000, .i32⟩
  | 90 => ⟨S16x5000, .i32⟩
  | 91 => ⟨S_, .i32⟩
  | 92 => ⟨S16x5000, .i32⟩
  | 93 => ⟨S16x5000, .i1⟩
  | 94 => ⟨S16x5000, .i1⟩
  | 95 => ⟨S16x5000x1, .i32⟩
  | 96 => ⟨S_, .i32⟩
  | 97 => ⟨S16x5000x1, .i32⟩
  | 98 => ⟨S16x5000x1, .i1⟩
  | 99 => ⟨S_, .i32⟩
  | 100 => ⟨S16x5000x1, .i32⟩
  | 101 => ⟨S16x5000x1, .i32⟩
  | 102 => ⟨S16x5000x1, .i32⟩
  | 103 => ⟨S1, .i32⟩
  | 104 => ⟨S_, .i32⟩
  | 105 => ⟨S16x5000x1, .i32⟩
  | 106 => ⟨S16x5000x1, .i1⟩
  | 107 => ⟨S1x1x1, .i32⟩
  | 108 => ⟨S16x5000x1, .i32⟩
  | 109 => ⟨S16x5000x1, .i1⟩
  | 110 => ⟨S16x5000x1, .i1⟩
  | 111 => ⟨S_, .i1⟩
  | 112 => ⟨S16x5000, .i1⟩
  | 113 => ⟨S16x5000x4, .f32⟩
  | 114 => ⟨S16x5000x4, .i1⟩
  | 115 => ⟨S_, .f32⟩
  | 116 => ⟨S16x5000x4, .f32⟩
  | 117 => ⟨S16x5000x4, .f32⟩
  | 118 => ⟨S16x5000x1, .i1⟩
  | 119 => ⟨S_, .f32⟩
  | 120 => ⟨S16x5000x4, .f32⟩
  | 121 => ⟨S16x5000x4, .i1⟩
  | 122 => ⟨S16x5000x4, .f32⟩
  | 123 => ⟨S_, .i32⟩
  | 124 => ⟨S16x5000, .i32⟩
  | 125 => ⟨S16x5000, .i1⟩
  | 126 => ⟨S_, .i32⟩
  | 127 => ⟨S16x5000, .i32⟩
  | _ => ⟨S16x5000x4, .f32⟩

abbrev hbmTy0_1 (i : Nat) : BufTy := match i % 128 with
  | 0 => ⟨S16x5000, .i32⟩
  | 1 => ⟨S16x5000, .i32⟩
  | 2 => ⟨S16x5000x1, .i32⟩
  | 3 => ⟨S1, .i32⟩
  | 4 => ⟨S_, .i32⟩
  | 5 => ⟨S16x5000x1, .i32⟩
  | 6 => ⟨S16x5000x1, .i1⟩
  | 7 => ⟨S1x1x1, .i32⟩
  | 8 => ⟨S16x5000x1, .i32⟩
  | 9 => ⟨S16x5000x1, .i1⟩
  | 10 => ⟨S16x5000x1, .i1⟩
  | 11 => ⟨S_, .i1⟩
  | 12 => ⟨S16x5000, .i1⟩
  | 13 => ⟨S16x5000, .i32⟩
  | 14 => ⟨S_, .i32⟩
  | 15 => ⟨S16x5000, .i32⟩
  | 16 => ⟨S16x5000, .i32⟩
  | 17 => ⟨S_, .i32⟩
  | 18 => ⟨S16x5000, .i32⟩
  | 19 => ⟨S16x5000, .i32⟩
  | 20 => ⟨S16x5000, .i32⟩
  | 21 => ⟨S16x5000, .i32⟩
  | 22 => ⟨S16x5000x1, .f32⟩
  | 23 => ⟨S16x5000, .f32⟩
  | 24 => ⟨S16x5000x1, .f32⟩
  | 25 => ⟨S16x5000, .f32⟩
  | 26 => ⟨S16x5000, .f32⟩
  | 27 => ⟨S16x5000x1, .f32⟩
  | 28 => ⟨S16x5000, .f32⟩
  | 29 => ⟨S16x5000x1, .f32⟩
  | 30 => ⟨S16x5000, .f32⟩
  | 31 => ⟨S16x5000, .f32⟩
  | 32 => ⟨S16x5000x1, .f32⟩
  | 33 => ⟨S16x5000, .f32⟩
  | 34 => ⟨S_, .f32⟩
  | 35 => ⟨S16x5000, .f32⟩
  | 36 => ⟨S16x5000, .f32⟩
  | 37 => ⟨S16x5000, .f32⟩
  | 38 => ⟨S16x5000x1, .f32⟩
  | 39 => ⟨S16x5000, .f32⟩
  | 40 => ⟨S_, .f32⟩
  | 41 => ⟨S16x5000, .f32⟩
  | 42 => ⟨S16x5000, .f32⟩
  | 43 => ⟨S16x5000, .f32⟩
  | 44 => ⟨S16x5000x1, .f32⟩
  | 45 => ⟨S16x5000, .f32⟩
  | 46 => ⟨S16x5000x1, .f32⟩
  | 47 => ⟨S16x5000, .f32⟩
  | 48 => ⟨S16x5000, .f32⟩
  | 49 => ⟨S16x5000x1, .f32⟩
  | 50 => ⟨S16x5000, .f32⟩
  | 51 => ⟨S16x5000x1, .f32⟩
  | 52 => ⟨S16x5000, .f32⟩
  | 53 => ⟨S16x5000, .f32⟩
  | 54 => ⟨S16x5000x1, .f32⟩
  | 55 => ⟨S16x5000, .f32⟩
  | 56 => ⟨S_, .f32⟩
  | 57 => ⟨S16x5000, .f32⟩
  | 58 => ⟨S16x5000, .f32⟩
  | 59 => ⟨S16x5000, .f32⟩
  | 60 => ⟨S16x5000x1, .f32⟩
  | 61 => ⟨S16x5000, .f32⟩
  | 62 => ⟨S_, .f32⟩
  | 63 => ⟨S16x5000, .f32⟩
  | 64 => ⟨S16x5000, .f32⟩
  | 65 => ⟨S16x5000, .f32⟩
  | 66 => ⟨S_, .f32⟩
  | 67 => ⟨S16x5000, .f32⟩
  | 68 => ⟨S16x5000, .i1⟩
  | 69 => ⟨S_, .f32⟩
  | 70 => ⟨S_, .f32⟩
  | 71 => ⟨S16x5000, .f32⟩
  | 72 => ⟨S16x5000, .f32⟩
  | 73 => ⟨S_, .f32⟩
  | 74 => ⟨S16x5000, .f32⟩
  | 75 => ⟨S16x5000, .i1⟩
  | 76 => ⟨S_, .f32⟩
  | 77 => ⟨S_, .f32⟩
  | 78 => ⟨S16x5000, .f32⟩
  | 79 => ⟨S16x5000, .f32⟩
  | 80 => ⟨S_, .f32⟩
  | 81 => ⟨S16x5000, .f32⟩
  | 82 => ⟨S16x5000, .i1⟩
  | 83 => ⟨S_, .f32⟩
  | 84 => ⟨S_, .f32⟩
  | 85 => ⟨S16x5000, .f32⟩
  | 86 => ⟨S16x5000, .f32⟩
  | 87 => ⟨S_, .f32⟩
  | 88 => ⟨S16x5000, .f32⟩
  | 89 => ⟨S16x5000, .i1⟩
  | 90 => ⟨S_, .f32⟩
  | 91 => ⟨S_, .f32⟩
  | 92 => ⟨S16x5000, .f32⟩
  | 93 => ⟨S16x5000, .f32⟩
  | 94 => ⟨S_, .f32⟩
  | 95 => ⟨S16x5000, .f32⟩
  | 96 => ⟨S16x5000, .i1⟩
  | 97 => ⟨S16x5000, .f32⟩
  | 98 => ⟨S16x5000, .f32⟩
  | 99 => ⟨S_, .f32⟩
  | 100 => ⟨S_, .f32⟩
  | 101 => ⟨S16x5000, .f32⟩
  | 102 => ⟨S16x5000, .f32⟩
  | 103 => ⟨S_, .f32⟩
  | 104 => ⟨S16x5000, .f32⟩
  | 105 => ⟨S16x5000, .i1⟩
  | 106 => ⟨S16x5000, .f32⟩
  | 107 => ⟨S16x5000, .f32⟩
  | 108 => ⟨S_, .f32⟩
  | 109 => ⟨S_, .f32⟩
  | 110 => ⟨S16x5000, .f32⟩
  | 111 => ⟨S16x5000, .f32⟩
  | 112 => ⟨S_, .f32⟩
  | 113 => ⟨S16x5000, .f32⟩
  | 114 => ⟨S16x5000, .i1⟩
  | 115 => ⟨S16x5000, .f32⟩
  | 116 => ⟨S16x5000, .f32⟩
  | 117 => ⟨S_, .f32⟩
  | 118 => ⟨S_, .f32⟩
  | 119 => ⟨S16x5000, .f32⟩
  | 120 => ⟨S16x5000, .f32⟩
  | 121 => ⟨S_, .f32⟩
  | 122 => ⟨S16x5000, .f32⟩
  | 123 => ⟨S16x5000, .i1⟩
  | 124 => ⟨S16x5000, .f32⟩
  | 125 => ⟨S16x5000, .f32⟩
  | 126 => ⟨S_, .f32⟩
  | 127 => ⟨S_, .f32⟩
  | _ => ⟨S16x5000x4, .f32⟩

abbrev hbmTy0_2 (i : Nat) : BufTy := match i % 128 with
  | 0 => ⟨S16x5000, .f32⟩
  | 1 => ⟨S16x5000, .f32⟩
  | 2 => ⟨S16x5000x1, .f32⟩
  | 3 => ⟨S16x5000x1, .f32⟩
  | 4 => ⟨S16x5000x1, .f32⟩
  | 5 => ⟨S16x5000x1, .f32⟩
  | 6 => ⟨S16x5000x4, .f32⟩
  | 7 => ⟨S1x1x4, .f32⟩
  | 8 => ⟨S16x5000x4, .f32⟩
  | 9 => ⟨S16x5000x4, .f32⟩
  | 10 => ⟨S16x5000x1, .i32⟩
  | 11 => ⟨S1x1x21, .i32⟩
  | 12 => ⟨S16x5000x21, .i32⟩
  | 13 => ⟨S16x5000x21, .i32⟩
  | 14 => ⟨S16x5000x21, .i1⟩
  | 15 => ⟨S16x5000x21, .f32⟩
  | 16 => ⟨S16x5000x21x1, .f32⟩
  | 17 => ⟨S1x16x1x5000x1x21x1x1, .f32⟩
  | 18 => ⟨S1x16x1x5000x1x21x4x1, .f32⟩
  | 19 => ⟨S16x5000x21x4, .f32⟩
  | 20 => ⟨S16x5000x1x4, .f32⟩
  | 21 => ⟨S16x5000x21x4, .f32⟩
  | 22 => ⟨S16x5000x21x4, .f32⟩
  | 23 => ⟨S16x5000x84, .f32⟩
  | _ => ⟨S16x5000x4, .f32⟩

abbrev hbmTy (i : Nat) : BufTy := match i / 128 with
  | 0 => hbmTy0_0 i
  | 1 => hbmTy0_1 i
  | 2 => hbmTy0_2 i
  | _ => ⟨S16x5000x4, .f32⟩

abbrev bufTy : (tb : Table) → Fin (tcTables nBuf tb) → BufTy
  | .hbm, ⟨i, _⟩ => hbmTy i
  | _, _ => ⟨S16x5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_1 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_2 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_values : Ref sig .tc := ⟨.hbm, 54, rfl⟩
abbrev main_indices : Ref sig .tc := ⟨.hbm, 55, rfl⟩
abbrev main_v46 : Ref sig .tc := ⟨.hbm, 56, rfl⟩
abbrev main_cst_3 : Ref sig .tc := ⟨.hbm, 57, rfl⟩
abbrev main_v47 : Ref sig .tc := ⟨.hbm, 58, rfl⟩
abbrev main_cst_4 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_call0_v0 : Ref sig .tc := ⟨.hbm, 65, rfl⟩
abbrev main_call0_v1_0 : Ref sig .tc := ⟨.hbm, 66, rfl⟩
abbrev main_v53 : Ref sig .tc := ⟨.hbm, 67, rfl⟩
abbrev main_call1_v0 : Ref sig .tc := ⟨.hbm, 68, rfl⟩
abbrev main_call1_v1_0 : Ref sig .tc := ⟨.hbm, 69, rfl⟩
abbrev main_v54 : Ref sig .tc := ⟨.hbm, 70, rfl⟩
abbrev main_c_5 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_6 : Ref sig .tc := ⟨.hbm, 75, rfl⟩
abbrev main_v58 : Ref sig .tc := ⟨.hbm, 76, rfl⟩
abbrev main_v59 : Ref sig .tc := ⟨.hbm, 77, rfl⟩
abbrev main_cst_7 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_call2_v0 : Ref sig .tc := ⟨.hbm, 85, rfl⟩
abbrev main_call2_v1_0 : Ref sig .tc := ⟨.hbm, 86, rfl⟩
abbrev main_v66 : Ref sig .tc := ⟨.hbm, 87, rfl⟩
abbrev main_call3_v0 : Ref sig .tc := ⟨.hbm, 88, rfl⟩
abbrev main_call3_v1_0 : Ref sig .tc := ⟨.hbm, 89, rfl⟩
abbrev main_v67 : Ref sig .tc := ⟨.hbm, 90, rfl⟩
abbrev main_c_8 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call4_c : Ref sig .tc := ⟨.hbm, 96, rfl⟩
abbrev main_call4_v0 : Ref sig .tc := ⟨.hbm, 97, rfl⟩
abbrev main_call4_v1 : Ref sig .tc := ⟨.hbm, 98, rfl⟩
abbrev main_call4_c_0 : Ref sig .tc := ⟨.hbm, 99, rfl⟩
abbrev main_call4_v2 : Ref sig .tc := ⟨.hbm, 100, rfl⟩
abbrev main_call4_v3 : Ref sig .tc := ⟨.hbm, 101, rfl⟩
abbrev main_call4_v4 : Ref sig .tc := ⟨.hbm, 102, rfl⟩
abbrev main_call4_c_1 : Ref sig .tc := ⟨.hbm, 103, rfl⟩
abbrev main_call4_c_2 : Ref sig .tc := ⟨.hbm, 104, rfl⟩
abbrev main_call4_v5 : Ref sig .tc := ⟨.hbm, 105, rfl⟩
abbrev main_call4_v6 : Ref sig .tc := ⟨.hbm, 106, rfl⟩
abbrev main_call4_v7 : Ref sig .tc := ⟨.hbm, 107, rfl⟩
abbrev main_call4_v8 : Ref sig .tc := ⟨.hbm, 108, rfl⟩
abbrev main_call4_v9 : Ref sig .tc := ⟨.hbm, 109, rfl⟩
abbrev main_call4_v10 : Ref sig .tc := ⟨.hbm, 110, rfl⟩
abbrev main_call4_c_3 : Ref sig .tc := ⟨.hbm, 111, rfl⟩
abbrev main_call4_v11 : Ref sig .tc := ⟨.hbm, 112, rfl⟩
abbrev main_call4_v12 : Ref sig .tc := ⟨.hbm, 113, rfl⟩
abbrev main_call4_v13 : Ref sig .tc := ⟨.hbm, 114, rfl⟩
abbrev main_call4_cst : Ref sig .tc := ⟨.hbm, 115, rfl⟩
abbrev main_call4_v14 : Ref sig .tc := ⟨.hbm, 116, rfl⟩
abbrev main_v72 : Ref sig .tc := ⟨.hbm, 117, rfl⟩
abbrev main_v73 : Ref sig .tc := ⟨.hbm, 118, rfl⟩
abbrev main_cst_9 : Ref sig .tc := ⟨.hbm, 119, rfl⟩
abbrev main_v74 : Ref sig .tc := ⟨.hbm, 120, rfl⟩
abbrev main_call5_v0 : Ref sig .tc := ⟨.hbm, 121, rfl⟩
abbrev main_v75 : Ref sig .tc := ⟨.hbm, 122, rfl⟩
abbrev main_call6_c : Ref sig .tc := ⟨.hbm, 123, rfl⟩
abbrev main_call6_v0 : Ref sig .tc := ⟨.hbm, 124, rfl⟩
abbrev main_call6_v1 : Ref sig .tc := ⟨.hbm, 125, rfl⟩
abbrev main_call6_c_0 : Ref sig .tc := ⟨.hbm, 126, rfl⟩
abbrev main_call6_v2 : Ref sig .tc := ⟨.hbm, 127, rfl⟩
abbrev main_call6_v3 : Ref sig .tc := ⟨.hbm, 128, rfl⟩
abbrev main_call6_v4 : Ref sig .tc := ⟨.hbm, 129, rfl⟩
abbrev main_call6_v5 : Ref sig .tc := ⟨.hbm, 130, rfl⟩
abbrev main_call6_c_1 : Ref sig .tc := ⟨.hbm, 131, rfl⟩
abbrev main_call6_c_2 : Ref sig .tc := ⟨.hbm, 132, rfl⟩
abbrev main_call6_v6 : Ref sig .tc := ⟨.hbm, 133, rfl⟩
abbrev main_call6_v7 : Ref sig .tc := ⟨.hbm, 134, rfl⟩
abbrev main_call6_v8 : Ref sig .tc := ⟨.hbm, 135, rfl⟩
abbrev main_call6_v9 : Ref sig .tc := ⟨.hbm, 136, rfl⟩
abbrev main_call6_v10 : Ref sig .tc := ⟨.hbm, 137, rfl⟩
abbrev main_call6_v11 : Ref sig .tc := ⟨.hbm, 138, rfl⟩
abbrev main_call6_c_3 : Ref sig .tc := ⟨.hbm, 139, rfl⟩
abbrev main_call6_v12 : Ref sig .tc := ⟨.hbm, 140, rfl⟩
abbrev main_call6_v13 : Ref sig .tc := ⟨.hbm, 141, rfl⟩
abbrev main_call6_c_4 : Ref sig .tc := ⟨.hbm, 142, rfl⟩
abbrev main_call6_v14 : Ref sig .tc := ⟨.hbm, 143, rfl⟩
abbrev main_v76 : Ref sig .tc := ⟨.hbm, 144, rfl⟩
abbrev main_c_10 : Ref sig .tc := ⟨.hbm, 145, rfl⟩
abbrev main_call7_v0 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_cst_11 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_cst_12 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_cst_13 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_cst_14 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_cst_15 : Ref sig .tc := ⟨.hbm, 194, rfl⟩
abbrev main_v120 : Ref sig .tc := ⟨.hbm, 195, rfl⟩
abbrev main_v121 : Ref sig .tc := ⟨.hbm, 196, rfl⟩
abbrev main_cst_16 : Ref sig .tc := ⟨.hbm, 197, rfl⟩
abbrev main_call8_v0 : Ref sig .tc := ⟨.hbm, 198, rfl⟩
abbrev main_call8_v1 : Ref sig .tc := ⟨.hbm, 199, rfl⟩
abbrev main_v122 : Ref sig .tc := ⟨.hbm, 200, rfl⟩
abbrev main_cst_17 : Ref sig .tc := ⟨.hbm, 201, rfl⟩
abbrev main_v123 : Ref sig .tc := ⟨.hbm, 202, rfl⟩
abbrev main_v124 : Ref sig .tc := ⟨.hbm, 203, rfl⟩
abbrev main_cst_18 : Ref sig .tc := ⟨.hbm, 204, rfl⟩
abbrev main_call9_v0 : Ref sig .tc := ⟨.hbm, 205, rfl⟩
abbrev main_call9_v1 : Ref sig .tc := ⟨.hbm, 206, rfl⟩
abbrev main_v125 : Ref sig .tc := ⟨.hbm, 207, rfl⟩
abbrev main_cst_19 : Ref sig .tc := ⟨.hbm, 208, rfl⟩
abbrev main_v126 : Ref sig .tc := ⟨.hbm, 209, rfl⟩
abbrev main_v127 : Ref sig .tc := ⟨.hbm, 210, rfl⟩
abbrev main_cst_20 : Ref sig .tc := ⟨.hbm, 211, rfl⟩
abbrev main_call10_v0 : Ref sig .tc := ⟨.hbm, 212, rfl⟩
abbrev main_call10_v1 : Ref sig .tc := ⟨.hbm, 213, rfl⟩
abbrev main_v128 : Ref sig .tc := ⟨.hbm, 214, rfl⟩
abbrev main_cst_21 : Ref sig .tc := ⟨.hbm, 215, rfl⟩
abbrev main_v129 : Ref sig .tc := ⟨.hbm, 216, rfl⟩
abbrev main_v130 : Ref sig .tc := ⟨.hbm, 217, rfl⟩
abbrev main_cst_22 : Ref sig .tc := ⟨.hbm, 218, rfl⟩
abbrev main_call11_v0 : Ref sig .tc := ⟨.hbm, 219, rfl⟩
abbrev main_call11_v1 : Ref sig .tc := ⟨.hbm, 220, rfl⟩
abbrev main_v131 : Ref sig .tc := ⟨.hbm, 221, rfl⟩
abbrev main_cst_23 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_cst_24 : Ref sig .tc := ⟨.hbm, 227, rfl⟩
abbrev main_call12_v0 : Ref sig .tc := ⟨.hbm, 228, rfl⟩
abbrev main_call12_v1 : Ref sig .tc := ⟨.hbm, 229, rfl⟩
abbrev main_v136 : Ref sig .tc := ⟨.hbm, 230, rfl⟩
abbrev main_cst_25 : Ref sig .tc := ⟨.hbm, 231, rfl⟩
abbrev main_v137 : Ref sig .tc := ⟨.hbm, 232, rfl⟩
abbrev main_v138 : Ref sig .tc := ⟨.hbm, 233, rfl⟩
abbrev main_v139 : Ref sig .tc := ⟨.hbm, 234, rfl⟩
abbrev main_v140 : Ref sig .tc := ⟨.hbm, 235, rfl⟩
abbrev main_cst_26 : Ref sig .tc := ⟨.hbm, 236, rfl⟩
abbrev main_call13_v0 : Ref sig .tc := ⟨.hbm, 237, rfl⟩
abbrev main_call13_v1 : Ref sig .tc := ⟨.hbm, 238, rfl⟩
abbrev main_v141 : Ref sig .tc := ⟨.hbm, 239, rfl⟩
abbrev main_cst_27 : Ref sig .tc := ⟨.hbm, 240, rfl⟩
abbrev main_v142 : Ref sig .tc := ⟨.hbm, 241, rfl⟩
abbrev main_v143 : Ref sig .tc := ⟨.hbm, 242, rfl⟩
abbrev main_v144 : Ref sig .tc := ⟨.hbm, 243, rfl⟩
abbrev main_v145 : Ref sig .tc := ⟨.hbm, 244, rfl⟩
abbrev main_cst_28 : Ref sig .tc := ⟨.hbm, 245, rfl⟩
abbrev main_call14_v0 : Ref sig .tc := ⟨.hbm, 246, rfl⟩
abbrev main_call14_v1 : Ref sig .tc := ⟨.hbm, 247, rfl⟩
abbrev main_v146 : Ref sig .tc := ⟨.hbm, 248, rfl⟩
abbrev main_cst_29 : Ref sig .tc := ⟨.hbm, 249, rfl⟩
abbrev main_v147 : Ref sig .tc := ⟨.hbm, 250, rfl⟩
abbrev main_v148 : Ref sig .tc := ⟨.hbm, 251, rfl⟩
abbrev main_v149 : Ref sig .tc := ⟨.hbm, 252, rfl⟩
abbrev main_v150 : Ref sig .tc := ⟨.hbm, 253, rfl⟩
abbrev main_cst_30 : Ref sig .tc := ⟨.hbm, 254, rfl⟩
abbrev main_call15_v0 : Ref sig .tc := ⟨.hbm, 255, rfl⟩
abbrev main_call15_v1 : Ref sig .tc := ⟨.hbm, 256, rfl⟩
abbrev main_v151 : Ref sig .tc := ⟨.hbm, 257, rfl⟩
abbrev main_v152 : Ref sig .tc := ⟨.hbm, 258, rfl⟩
abbrev main_v153 : Ref sig .tc := ⟨.hbm, 259, rfl⟩
abbrev main_v154 : Ref sig .tc := ⟨.hbm, 260, rfl⟩
abbrev main_v155 : Ref sig .tc := ⟨.hbm, 261, rfl⟩
abbrev main_v156 : Ref sig .tc := ⟨.hbm, 262, rfl⟩
abbrev main_v157 : Ref sig .tc := ⟨.hbm, 263, rfl⟩
abbrev main_v158 : Ref sig .tc := ⟨.hbm, 264, rfl⟩
abbrev main_v159 : Ref sig .tc := ⟨.hbm, 265, rfl⟩
abbrev main_call16_v0 : Ref sig .tc := ⟨.hbm, 266, rfl⟩
abbrev main_call16_v1 : Ref sig .tc := ⟨.hbm, 267, rfl⟩
abbrev main_call16_v2 : Ref sig .tc := ⟨.hbm, 268, rfl⟩
abbrev main_call16_v3 : Ref sig .tc := ⟨.hbm, 269, rfl⟩
abbrev main_call16_v4 : Ref sig .tc := ⟨.hbm, 270, rfl⟩
abbrev main_v160 : Ref sig .tc := ⟨.hbm, 271, rfl⟩
abbrev main_v161 : Ref sig .tc := ⟨.hbm, 272, rfl⟩
abbrev main_v162 : Ref sig .tc := ⟨.hbm, 273, rfl⟩
abbrev main_v163 : Ref sig .tc := ⟨.hbm, 274, rfl⟩
abbrev main_v164 : Ref sig .tc := ⟨.hbm, 275, rfl⟩
abbrev main_v165 : Ref sig .tc := ⟨.hbm, 276, rfl⟩
abbrev main_v166 : Ref sig .tc := ⟨.hbm, 277, rfl⟩
abbrev main_v167 : Ref sig .tc := ⟨.hbm, 278, rfl⟩
abbrev main_v168 : Ref sig .tc := ⟨.hbm, 279, rfl⟩

abbrev nD : Nat := 1
abbrev τ : Topo := Topo.v7x

variable {F : FTy → Type} [FloatOps F]
-- ==== Proof.Threshold.lean ====
/-
  The threshold search. Fourteen halvings of [0, 4999] look for the smallest rank up to which at least 128 entries of a
  mask lie, settling on 4999 if there are fewer. The entries of the mask up to the rank found are those with fewer than
  128 entries of the mask ranked below them.
-/
module

public import Mathlib.Data.Fintype.Card
public import Mathlib.Tactic.Ring
public import Mathlib.Tactic.Linarith
public import Mathlib.Order.Iterate

@[expose] public section

namespace Cert.Threshold

/-- One halving of the search over the counts `c`: at the middle, the upper end moves down if the count reaches 128 there
(or the middle is the last rank), the lower end moves up otherwise. -/
def halve (c : ℕ → ℕ) (s : ℕ × ℕ) : ℕ × ℕ :=
  if 128 ≤ c ((s.1 + s.2) / 2) ∨ (s.1 + s.2) / 2 = 4999 then (s.1, (s.1 + s.2) / 2) else ((s.1 + s.2) / 2 + 1, s.2)

/-- What the search keeps after `k` halvings. -/
structure Kept (c : ℕ → ℕ) (k : ℕ) (s : ℕ × ℕ) : Prop where
  le : s.1 ≤ s.2
  top : s.2 ≤ 4999
  high : s.2 = 4999 ∨ 128 ≤ c s.2
  low : ∀ t < s.1, c t < 128
  near : (s.2 - s.1) * 2 ^ k < 8192

/-- The search starts with the whole range. -/
theorem kept_start (c : ℕ → ℕ) : Kept c 0 (0, 4999) :=
  ⟨by decide, by decide, Or.inl rfl, fun t h => absurd h (Nat.not_lt_zero t), by decide⟩

/-- A halving keeps it, when the counts only grow. -/
theorem kept_halve {c : ℕ → ℕ} (hc : Monotone c) {k : ℕ} {s : ℕ × ℕ} (h : Kept c k s) : Kept c (k + 1) (halve c s) := by
  obtain ⟨a, b⟩ := s
  obtain ⟨h1, h2, h3, h4, h5⟩ := h
  simp only at h1 h2 h3 h4 h5
  have hp : (2 : ℕ) ^ (k + 1) = 2 * 2 ^ k := by rw [pow_succ]; ring
  unfold halve
  simp only
  by_cases hm : 128 ≤ c ((a + b) / 2) ∨ (a + b) / 2 = 4999
  · rw [if_pos hm]
    refine ⟨by simp only; omega, by simp only; omega, hm.symm, h4, ?_⟩
    simp only
    rw [hp, ← mul_assoc]
    exact lt_of_le_of_lt (Nat.mul_le_mul_right _ (by omega)) h5
  · rw [if_neg hm]
    have hm1 : c ((a + b) / 2) < 128 := by by_contra h; exact hm (Or.inl (by omega))
    have hm2 : (a + b) / 2 ≠ 4999 := fun h => hm (Or.inr h)
    have hab : a ≠ b := by
      rintro rfl
      rcases h3 with h3 | h3
      · omega
      · have : (a + a) / 2 = a := by omega
        rw [this] at hm1; omega
    refine ⟨by simp only; omega, h2, h3, fun t ht => lt_of_le_of_lt (hc (by simp only at ht; omega)) hm1, ?_⟩
    simp only
    rw [hp, ← mul_assoc]
    exact lt_of_le_of_lt (Nat.mul_le_mul_right _ (by omega)) h5

/-- Some number of halvings keep it. -/
theorem kept_iterate {c : ℕ → ℕ} (hc : Monotone c) (k : ℕ) : Kept c k ((halve c)^[k] (0, 4999)) := by
  induction k with
  | zero => exact kept_start c
  | succ k ih => rw [Function.iterate_succ_apply']; exact kept_halve hc ih

/-- The rank the fourteen halvings settle on. -/
def settled (c : ℕ → ℕ) : ℕ := ((halve c)^[14] (0, 4999)).2

/-- The rank settled on is at most the last one. -/
theorem settled_le {c : ℕ → ℕ} (hc : Monotone c) : settled c ≤ 4999 := (kept_iterate hc 14).top

/-- How many entries of a mask have a rank of at most `t`. -/
def upTo {n : ℕ} (m : Fin n → Prop) [DecidablePred m] (rank : Fin n → ℕ) (t : ℕ) : ℕ :=
  (Finset.univ.filter fun j => m j ∧ rank j ≤ t).card

/-- The counts up to a rank only grow with it. -/
theorem upTo_mono {n : ℕ} (m : Fin n → Prop) [DecidablePred m] (rank : Fin n → ℕ) : Monotone (upTo m rank) :=
  fun s t hst => Finset.card_le_card fun j => by
    simp only [Finset.mem_filter, Finset.mem_univ, true_and]
    exact fun h => ⟨h.1, h.2.trans hst⟩

/-- An entry lies up to the rank settled on exactly when fewer than 128 entries of the mask are ranked below it. -/
theorem rank_le_settled {n : ℕ} (m : Fin n → Prop) [DecidablePred m] (rank : Fin n → ℕ) (hr : ∀ j, rank j < 5000)
    (i : Fin n) :
    rank i ≤ settled (upTo m rank) ↔ (Finset.univ.filter fun j => m j ∧ rank j < rank i).card < 128 := by
  have hk := kept_iterate (upTo_mono m rank) 14
  set t := settled (upTo m rank) with ht
  have hlow : t ≤ ((halve (upTo m rank))^[14] (0, 4999)).1 := by
    have := hk.near
    have h2 : ((halve (upTo m rank))^[14] (0, 4999)).2 = t := rfl
    rw [h2] at this
    omega
  constructor
  · intro h
    rcases Nat.eq_zero_or_pos (rank i) with h0 | h0
    · have : (Finset.univ.filter fun j => m j ∧ rank j < rank i) = ∅ := by
        ext j; simp [h0]
      rw [this, Finset.card_empty]; exact Nat.zero_lt_succ _
    · have e : (Finset.univ.filter fun j => m j ∧ rank j < rank i)
          = (Finset.univ.filter fun j => m j ∧ rank j ≤ rank i - 1) := by
        ext j
        simp only [Finset.mem_filter, Finset.mem_univ, true_and]
        exact and_congr_right fun _ => by omega
      rw [e]
      exact hk.low _ (by omega)
  · intro h
    by_contra hlt
    have hi := hr i
    have h3 : 128 ≤ upTo m rank t := by
      rcases hk.high with h | h
      · have h2 : ((halve (upTo m rank))^[14] (0, 4999)).2 = t := rfl
        omega
      · exact h
    refine absurd (lt_of_le_of_lt (Finset.card_le_card ?_) h) (not_lt.mpr h3)
    intro j
    simp only [Finset.mem_filter, Finset.mem_univ, true_and]
    exact fun hj => ⟨hj.1, by omega⟩

end Cert.Threshold
-- ==== Proof.Order.lean ====
/-
  The order of a row by drawn numbers. A stable sort's positions, sorted once more, give every entry's place in the
  order: how many entries come before it. For the entries of a mask the place counts only entries of the mask, so it can be
  read off any table that ranks the whole row in the same order.
-/
module

public import Idealize.ShloMosaic.Lib.SortFacts
public import Idealize.ShloMosaic.Lib.SortPrefix
public import Mathlib.Data.Fintype.Card
public import Mathlib.Order.Interval.Finset.Fin

@[expose] public section

namespace Cert.Order

open Idealize.ShloMosaic

variable {n : ℕ}

/-- The comparison `R` with equal entries told apart by their position. -/
def broken (R : Fin n → Fin n → Bool) (i j : Fin n) : Bool := R i j || (!R j i && decide (i < j))

/-- How many entries come before entry `i`. -/
def place (B : Fin n → Fin n → Bool) (i : Fin n) : ℕ := (Finset.univ.filter fun j => B j i = true).card

/-- Two comparisons that agree on every later entry against an earlier one sort an ascending list alike. -/
theorem stableSort_agree {ι : Type} (R R' : ι → ι → Bool) (l : List ι)
    (h : l.Pairwise fun a b => R b a = R' b a) : stableSort R l = stableSort R' l := by
  induction l with
  | nil => rfl
  | cons a l ih =>
    obtain ⟨ha, hl⟩ := List.pairwise_cons.mp h
    unfold stableSort
    rw [ih hl]
    exact insertBefore_congr R R' a _ fun b hb => ha b ((perm_stableSort R' l).mem_iff.mp hb)

/-- A stable sort is the sort by the comparison with equal entries told apart by position. -/
theorem sortedFrom_broken (R : Fin n → Fin n → Bool) (hR : ∀ a b, R a b = true → R b a = false) :
    sortedFrom R = sortedFrom (broken R) := by
  have e : sortPositions n R = sortPositions n (broken R) := by
    refine stableSort_agree R _ _ ?_
    refine (List.pairwise_lt_finRange n).imp fun {a b} hab => ?_
    have hba : ¬ b < a := not_lt.mpr hab.le
    simp [broken, hba]
  funext k
  unfold sortedFrom
  rw [List.get_of_eq e]
  rfl

/-- The entry a sort puts at `k` has exactly `k` entries before it. -/
theorem place_sortedFrom {B : Fin n → Fin n → Bool} (hB : StrictTotalBefore B) (k : Fin n) :
    place B (sortedFrom B k) = k.val := by
  have hlt : ∀ i j : Fin n, i < j → B (sortedFrom B i) (sortedFrom B j) = true := fun i j hij => by
    have hno := sortedFrom_noInversion B B (fun a b h => hB.asymm a b h) (fun _ _ h => h) hB.negTrans i j hij
    have hne : sortedFrom B i ≠ sortedFrom B j := fun h => hij.ne (sortedFrom_injective B h)
    rcases hB.total _ _ hne with h | h
    · exact h
    · rw [h] at hno; exact absurd hno (by decide)
  have e : (Finset.univ.filter fun j => B j (sortedFrom B k) = true) = (Finset.univ.filter fun j : Fin n => j < k).image (sortedFrom B) := by
    ext j
    simp only [Finset.mem_filter, Finset.mem_univ, true_and, Finset.mem_image]
    constructor
    · intro hj
      obtain ⟨i, rfl⟩ := sortedFrom_surjective B j
      refine ⟨i, ?_, rfl⟩
      rcases lt_trichotomy i k with h | h | h
      · exact h
      · rw [h, hB.irrefl] at hj; exact absurd hj (by decide)
      · rw [hB.asymm _ _ (hlt k i h)] at hj; exact absurd hj (by decide)
    · rintro ⟨i, hi, rfl⟩
      exact hlt i k hi
  unfold place
  rw [e, Finset.card_image_of_injective _ (sortedFrom_injective B)]
  have : (Finset.univ.filter fun j : Fin n => j < k) = Finset.Iio k := by ext j; simp
  rw [this, Fin.card_Iio]

/-- Sorting the positions a sort gave, once more, gives every entry's place. -/
theorem sortedFrom_sortedFrom {B : Fin n → Fin n → Bool} (hB : StrictTotalBefore B) (p : Fin n → ℤ)
    (hp : ∀ k, p k = ((sortedFrom B k).val : ℤ)) (k : Fin n) :
    (sortedFrom (fun i j => decide (p i < p j)) k).val = place B k := by
  have hlt : ∀ i j, (p i < p j) ↔ sortedFrom B i < sortedFrom B j := fun i j => by
    rw [hp, hp, Fin.lt_def]; omega
  have hB2 : StrictTotalBefore (fun i j : Fin n => decide (p i < p j)) :=
    { irrefl := fun a => by simp
      trans := fun a b c h h' => by simp only [decide_eq_true_eq] at *; omega
      total := fun a b hne => by
        simp only [decide_eq_true_eq, hlt]
        exact lt_or_gt_of_ne fun h => hne (sortedFrom_injective B h) }
  have h2 : ∀ i, place (fun i j : Fin n => decide (p i < p j)) i = (sortedFrom B i).val := fun i => by
    have e : ((Finset.univ.filter fun j : Fin n => decide (p j < p i) = true)).image (sortedFrom B)
        = Finset.Iio (sortedFrom B i) := by
      ext j
      simp only [Finset.mem_image, Finset.mem_filter, Finset.mem_univ, true_and, decide_eq_true_eq, hlt, Finset.mem_Iio]
      constructor
      · rintro ⟨a, ha, rfl⟩; exact ha
      · intro hj
        obtain ⟨a, rfl⟩ := sortedFrom_surjective B j
        exact ⟨a, hj, rfl⟩
    unfold place
    rw [← Finset.card_image_of_injective _ (sortedFrom_injective B), e, Fin.card_Iio]
  have h3 := place_sortedFrom hB2 k
  rw [h2] at h3
  have h4 := place_sortedFrom hB (sortedFrom (fun i j : Fin n => decide (p i < p j)) k)
  rw [← h4, Fin.ext h3]

/-- Comparing whole numbers and then positions is a strict total order. -/
theorem broken_total (x : Fin n → ℤ) : StrictTotalBefore (broken fun i j : Fin n => decide (x i < x j)) :=
  { irrefl := fun a => by simp [broken]
    trans := fun a b c h h' => by
      simp only [broken, Bool.or_eq_true, Bool.and_eq_true, Bool.not_eq_true', decide_eq_true_eq,
        decide_eq_false_iff_not, Fin.lt_def] at *
      omega
    total := fun a b hne => by
      have := fun h => hne (Fin.ext h)
      simp only [broken, Bool.or_eq_true, Bool.and_eq_true, Bool.not_eq_true', decide_eq_true_eq,
        decide_eq_false_iff_not, Fin.lt_def] at *
      omega }

/-- The signed comparison of two words as a decision about their values. -/
theorem slt_eq (a b : BitVec 32) : (IntOp.cmpi .slt a b == 1#1) = decide (a.toInt < b.toInt) := by
  show (BitVec.ofBool (BitVec.slt a b) == 1#1) = _
  rw [BitVec.slt_eq_decide]
  cases decide (a.toInt < b.toInt) <;> rfl

/-- A word that counts below `2 ^ 31`, read as a signed number. -/
theorem toInt_ofNat {k : ℕ} (h : k < 2147483648) : (BitVec.ofNat 32 k).toInt = (k : ℤ) := by
  rw [BitVec.toInt_eq_toNat_cond, BitVec.toNat_ofNat]
  omega

/-- The positions of a stable sort of words, sorted once more: every entry's place among the words. -/
theorem argsort_twice (hn : n ≤ 2147483648) (x : Fin n → BitVec 32) (k : Fin n) :
    (sortedFrom (fun i j => IntOp.cmpi .slt
        (BitVec.ofNat 32 (sortedFrom (fun a b => IntOp.cmpi .slt (x a) (x b) == 1#1) i).val)
        (BitVec.ofNat 32 (sortedFrom (fun a b => IntOp.cmpi .slt (x a) (x b) == 1#1) j).val) == 1#1) k).val
      = place (broken fun i j => decide ((x i).toInt < (x j).toInt)) k := by
  have e : sortedFrom (fun a b => IntOp.cmpi .slt (x a) (x b) == 1#1)
      = sortedFrom (broken fun i j => decide ((x i).toInt < (x j).toInt)) := by
    simp only [slt_eq]
    exact sortedFrom_broken _ fun a b h => by simp only [decide_eq_true_eq, decide_eq_false_iff_not] at *; omega
  rw [e]
  simp only [slt_eq]
  exact sortedFrom_sortedFrom (broken_total _) _ (fun i => toInt_ofNat (by omega)) k

/-- Among draws that are positive on a mask and zeroed off it, negated, the place of an entry of the mask is the number of
entries of the mask that a table ranks below it, if the table ranks the whole row by larger draw first, then position. -/
theorem place_masked (m : Fin n → Prop) [DecidablePred m] (r rank : Fin n → ℕ) (x : Fin n → ℤ)
    (hx : ∀ i, x i = if m i then -(r i : ℤ) else 0) (hr : ∀ i, 1 ≤ r i)
    (hrank : ∀ i j, rank j < rank i ↔ r i < r j ∨ (r i = r j ∧ j < i)) (i : Fin n) (hi : m i) :
    place (broken fun i j => decide (x i < x j)) i = (Finset.univ.filter fun j => m j ∧ rank j < rank i).card := by
  unfold place
  congr 1
  ext j
  have h1 := hr i
  have h2 := hr j
  have xi : x i = -(r i : ℤ) := (hx i).trans (if_pos hi)
  simp only [broken, Finset.mem_filter, Finset.mem_univ, true_and, Bool.or_eq_true, Bool.and_eq_true, Bool.not_eq_true',
    decide_eq_true_eq, decide_eq_false_iff_not, hrank, xi, Fin.lt_def]
  by_cases hj : m j
  · have xj : x j = -(r j : ℤ) := (hx j).trans (if_pos hj)
    simp only [xj, hj, true_and]; omega
  · have xj : x j = 0 := (hx j).trans (if_neg hj)
    simp only [xj, hj, false_and, iff_false]; omega

end Cert.Order
-- ==== Proof.Halving.lean ====
module

public import proofs.«01_k».proof.Proof.Threshold
public import proofs.«01_k».proof.Proof.Order
public import Idealize.ShloMosaic.Lib.Pointwise
public import Idealize.ShloMosaic.Lib.Routing.Words
public import Idealize.ShloMosaic.Lib.IndicatorCount
public import Idealize.ShloMosaic.Lib.Exec.Context

/-! The kernel's search for its threshold, on words: each trip is a halving step of `Threshold`. -/

set_option maxRecDepth 16384

@[expose] public section

namespace Cert.Threshold

open Idealize.ShloMosaic

/-- Half of a word, rounded down, as the kernel writes it. -/
def midW (s : BitVec 32) : BitVec 32 :=
  Scalar.select (Scalar.andi
      (Scalar.cmpi .ne (Scalar.subi (Scalar.extui (Scalar.cmpi .sgt s 0#32)) (Scalar.extui (Scalar.cmpi .slt s 0#32)))
        (Scalar.subi (Scalar.extui (Scalar.cmpi .sgt 2#32 0#32)) (Scalar.extui (Scalar.cmpi .slt 2#32 0#32))))
      (Scalar.cmpi .ne (Scalar.remsi s 2#32) 0#32))
    (Scalar.subi (Scalar.divsi s 2#32) 1#32) (Scalar.divsi s 2#32)

/-- One trip of the kernel's loop: the bounds carried, `count a` the number counted at their middle. -/
def stepW (count : BitVec 32 × BitVec 32 → BitVec 32) (a : BitVec 32 × BitVec 32) : BitVec 32 × BitVec 32 :=
  (Scalar.select (Scalar.ori (Scalar.cmpi .sge (count a) 128#32)
      (Scalar.cmpi .eq (midW (Scalar.addi a.1 a.2)) 4999#32)) a.1 (Scalar.addi (midW (Scalar.addi a.1 a.2)) 1#32),
    Scalar.select (Scalar.ori (Scalar.cmpi .sge (count a) 128#32)
      (Scalar.cmpi .eq (midW (Scalar.addi a.1 a.2)) 4999#32)) (midW (Scalar.addi a.1 a.2)) a.2)

/-- The words of a pair of bounds. -/
def words (s : ℕ × ℕ) : BitVec 32 × BitVec 32 := (BitVec.ofNat 32 s.1, BitVec.ofNat 32 s.2)

/-- Signed order of small words is the order of the numbers. -/
theorem slt_ofNat {a b : ℕ} (ha : a < 2147483648) (hb : b < 2147483648) :
    (BitVec.ofNat 32 a).slt (BitVec.ofNat 32 b) = decide (a < b) := by
  rw [BitVec.slt_eq_decide, Order.toInt_ofNat ha, Order.toInt_ofNat hb, decide_eq_decide]
  omega

/-- Signed at-most of small words is at-most of the numbers. -/
theorem sle_ofNat {a b : ℕ} (ha : a < 2147483648) (hb : b < 2147483648) :
    (BitVec.ofNat 32 a).sle (BitVec.ofNat 32 b) = decide (a ≤ b) := by
  rw [BitVec.sle_eq_decide, Order.toInt_ofNat ha, Order.toInt_ofNat hb, decide_eq_decide]
  omega

/-- Equality of small words is equality of the numbers. -/
theorem beq_ofNat {a b : ℕ} (ha : a < 2147483648) (hb : b < 2147483648) :
    (BitVec.ofNat 32 a == BitVec.ofNat 32 b) = decide (a = b) := by
  rw [Bool.eq_iff_iff, beq_iff_eq, decide_eq_true_eq]
  constructor
  · intro h
    have := congrArg BitVec.toInt h
    rw [Order.toInt_ofNat ha, Order.toInt_ofNat hb] at this
    omega
  · rintro rfl; rfl

/-- On a small sum the kernel's half is the natural half. -/
theorem midW_ofNat {s : ℕ} (hs : s < 2147483648) : midW (BitVec.ofNat 32 s) = BitVec.ofNat 32 (s / 2) := by
  have hd : Scalar.divsi (BitVec.ofNat 32 s) 2#32 = BitVec.ofNat 32 (s / 2) :=
    Routing.divsi_word .scalar (by omega) (by decide) (by decide)
  have hr : Scalar.remsi (BitVec.ofNat 32 s) 2#32 = BitVec.ofNat 32 (s % 2) :=
    Routing.remsi_word .scalar (by omega) (by decide) (by decide)
  rcases Nat.eq_zero_or_pos s with h | h
  · subst h; decide
  · have hg : Scalar.cmpi .sgt (BitVec.ofNat 32 s) 0#32 = 1#1 := by
      show BitVec.ofBool ((BitVec.ofNat 32 0).slt (BitVec.ofNat 32 s)) = 1#1
      rw [slt_ofNat (by omega) hs, decide_eq_true h]; rfl
    have hl : Scalar.cmpi .slt (BitVec.ofNat 32 s) 0#32 = 0#1 := by
      show BitVec.ofBool ((BitVec.ofNat 32 s).slt (BitVec.ofNat 32 0)) = 0#1
      rw [slt_ofNat hs (by omega), decide_eq_false (by omega)]; rfl
    rw [midW, hg, hl, hd, hr]
    have e : ∀ b : BitVec 1, Scalar.andi (Scalar.cmpi .ne (Scalar.subi (Scalar.extui 1#1) (Scalar.extui 0#1))
        (Scalar.subi (Scalar.extui (Scalar.cmpi .sgt 2#32 0#32)) (Scalar.extui (Scalar.cmpi .slt 2#32 0#32)))) b
          = 0#1 := by decide
    rw [e]
    rfl

/-- A choice by either of two bits. -/
theorem select_or (b c : Bool) {α : Type} (x y : α) :
    Scalar.select (Scalar.ori (BitVec.ofBool b) (BitVec.ofBool c)) x y = if (b || c) = true then x else y := by
  cases b <;> cases c <;> rfl

/-- A trip on words is a halving step, where the number counted at the middle is the word of `c` there. -/
theorem stepW_words (count : BitVec 32 × BitVec 32 → BitVec 32) (c : ℕ → ℕ) (s : ℕ × ℕ) (h1 : s.1 ≤ 5000)
    (h2 : s.2 ≤ 5000) (hc : count (words s) = BitVec.ofNat 32 (c ((s.1 + s.2) / 2)))
    (hn : c ((s.1 + s.2) / 2) ≤ 5000) : stepW count (words s) = words (halve c s) := by
  have ha : Scalar.addi (words s).1 (words s).2 = BitVec.ofNat 32 (s.1 + s.2) := by
    show BitVec.ofNat 32 s.1 + BitVec.ofNat 32 s.2 = _
    rw [BitVec.ofNat_add]
  have hm : midW (Scalar.addi (words s).1 (words s).2) = BitVec.ofNat 32 ((s.1 + s.2) / 2) := by
    rw [ha, midW_ofNat (by omega)]
  have h128 : Scalar.cmpi .sge (count (words s)) 128#32 = BitVec.ofBool (decide (128 ≤ c ((s.1 + s.2) / 2))) := by
    rw [hc]
    show BitVec.ofBool ((BitVec.ofNat 32 128).sle _) = _
    rw [sle_ofNat (by omega) (by omega)]
  have h4999 : Scalar.cmpi .eq (midW (Scalar.addi (words s).1 (words s).2)) 4999#32
      = BitVec.ofBool (decide ((s.1 + s.2) / 2 = 4999)) := by
    rw [hm]
    show BitVec.ofBool (BitVec.ofNat 32 _ == BitVec.ofNat 32 4999) = _
    rw [beq_ofNat (by omega) (by omega)]
  have ha1 : Scalar.addi (BitVec.ofNat 32 ((s.1 + s.2) / 2)) 1#32 = BitVec.ofNat 32 ((s.1 + s.2) / 2 + 1) := by
    show BitVec.ofNat 32 _ + BitVec.ofNat 32 1 = _
    rw [BitVec.ofNat_add]
  rw [stepW, h128, h4999, hm, select_or, select_or, ha1, halve]
  by_cases h : 128 ≤ c ((s.1 + s.2) / 2) ∨ (s.1 + s.2) / 2 = 4999
  · rw [if_pos h, if_pos (by simpa using h), if_pos (by simpa using h)]
    rfl
  · rw [if_neg h, if_neg (by simpa using h), if_neg (by simpa using h)]
    rfl

/-- The kernel's loop of 14 trips leaves the word of the threshold settled on. -/
theorem fold_settled {n : ℕ} (hn : n = 14) (count : BitVec 32 × BitVec 32 → BitVec 32) (c : ℕ → ℕ) (hmono : Monotone c)
    (hc : ∀ s : ℕ × ℕ, s.1 ≤ 5000 → s.2 ≤ 5000 → count (words s) = BitVec.ofNat 32 (c ((s.1 + s.2) / 2)))
    (hle : ∀ t, c t ≤ 5000) :
    (Scf.fold (n := n) (fun _ a => stepW count a) (0#32, 4999#32)).2 = BitVec.ofNat 32 (settled c) := by
  subst hn
  have hk : ∀ k, (stepW count)^[k] (0#32, 4999#32) = words ((halve c)^[k] (0, 4999)) := fun k => by
    induction k with
    | zero => rfl
    | succ k ih =>
      have hK := kept_iterate hmono k
      have h1 := hK.le
      have h2 := hK.top
      rw [Function.iterate_succ_apply', ih, Function.iterate_succ_apply',
        stepW_words count c _ (by omega) (by omega) (hc _ (by omega) (by omega)) (hle _)]
  rw [Scf.fold_eq, List.foldl_const, List.length_finRange, hk]
  rfl

/-- A sum of marks over a column is their number, as a word. -/
theorem fold_count {n : ℕ} (b : Fin n → BitVec 1) :
    Finset.univ.fold IntOp.addi 0#32 (fun x : Fin n × Fin 1 => Scalar.select (b x.1) 1#32 0#32)
      = BitVec.ofNat 32 (Finset.univ.filter fun j => b j = 1#1).card := by
  have e : (fun x : Fin n × Fin 1 => Scalar.select (b x.1) 1#32 0#32) = fun x => (b x.1).setWidth 32 := by
    funext x
    generalize b x.1 = w
    revert w
    decide
  rw [e, IndicatorCount.fold_addi_setWidth_eq_card (fun x : Fin n × Fin 1 => b x.1)]
  congr 1
  refine Finset.card_bij' (fun x _ => x.1) (fun j _ => (j, 0)) ?_ ?_ ?_ ?_
  · intro x hx; exact Finset.mem_filter.mpr ⟨Finset.mem_univ _, (Finset.mem_filter.mp hx).2⟩
  · intro j hj; exact Finset.mem_filter.mpr ⟨Finset.mem_univ _, (Finset.mem_filter.mp hj).2⟩
  · intro x _; exact Prod.ext rfl (Subsingleton.elim _ _)
  · intro j _; rfl

end Cert.Threshold

end
-- ==== Proof.KernelOut.lean ====
module

public import proofs.«01_k».proof.Proof.Gen.KernelIdeal.Value
public import proofs.«01_k».proof.Proof.Halving
public import Idealize.ShloMosaic.Lib.Pointwise
public import Idealize.ShloMosaic.Lib.Pipeline.ValueKit

/-! What one grid step of the kernel leaves in its two output blocks, as terms over the five blocks it reads. -/

set_option maxRecDepth 16384

@[expose] public section

noncomputable section

namespace Cert.KernelIdeal.Block

open Idealize.ShloMosaic Idealize.ShloMosaic.TcCoe Idealize.ShloMosaic.Tactic Cert.KernelIdeal.Gen
open Idealize.SL.Sem

variable (x0 : Vec Ideal S1x5000x4 .f32) (x1 : Vec Ideal S1x4x128 .f32) (x2 : Vec Ideal S1x1x128 .f32)
  (x3 x4 : Vec Ideal S1x5000x1 .i32)

/-- The overlaps of the block's boxes, minus one past the hundredth column. -/
def scores : FVec Ideal S5000x128 .f32 := k0_pay20 (k0_pay16 x0) (k0_pay17 x1) (k0_pay18 x0 x1) (k0_pay19 x0 x1)

/-- Each row's mark at its first largest overlap. -/
def marks : IVec S5000x128 1 := k0_pay22 (k0_pay16 x0) (k0_pay17 x1) (k0_pay18 x0 x1) (k0_pay19 x0 x1)

/-- Foreground candidates. -/
def fgMask : IVec S5000x1 1 := k0_pay24 (k0_pay16 x0) (k0_pay17 x1) (k0_pay18 x0 x1) (k0_pay19 x0 x1)

/-- Background candidates. -/
def bgMask : IVec S5000x1 1 := k0_pay25 (k0_pay16 x0) (k0_pay17 x1) (k0_pay18 x0 x1) (k0_pay19 x0 x1)

/-- The number of foreground candidates ranked up to the middle of the bounds `a`. -/
def fgCount (a : BitVec 32 × BitVec 32) : BitVec 32 :=
  extractAt ![0, 0, 0] (k0_pay26 (k0_pay6 x3) (k0_pay16 x0) (k0_pay17 x1) (k0_pay18 x0 x1) (k0_pay19 x0 x1) a.1 a.2)
    inpos_S1x1x1_p0_0_0

/-- The number of background candidates ranked up to the middle of the bounds `a`. -/
def bgCount (a : BitVec 32 × BitVec 32) : BitVec 32 :=
  extractAt ![0, 0, 0] (k0_pay28 (k0_pay7 x4) (bgMask x0 x1) a.1 a.2) inpos_S1x1x1_p0_0_0

/-- The rank up to which foreground candidates are kept. -/
def fgRank : BitVec 32 :=
  (Scf.fold (n := k0_t1_loop.trips) (fun _ a => Threshold.stepW (fgCount x0 x1 x3) a) (0#32, 4999#32)).2

/-- The rank up to which background candidates are kept. -/
def bgRank : BitVec 32 :=
  (Scf.fold (n := k0_t2_loop.trips) (fun _ a => Threshold.stepW (bgCount x0 x1 x4) a) (0#32, 4999#32)).2

/-- The rows kept as foreground. -/
def kept : IVec S5000x1 1 :=
  k0_pay27 (k0_pay6 x3) (k0_pay16 x0) (k0_pay17 x1) (k0_pay18 x0 x1) (k0_pay19 x0 x1) (fgRank x0 x1 x3)

/-- The label each row's marked box carries. -/
def matched : FVec Ideal S5000x1 .f32 :=
  k0_pay23 (k0_pay5 x2) (k0_pay16 x0) (k0_pay17 x1) (k0_pay18 x0 x1) (k0_pay19 x0 x1)

/-- Each row's class, as a number. -/
def classes : FVec Ideal S5000x1 .f32 :=
  k0_pay29 (k0_pay7 x4) (matched x0 x1 x2) (bgMask x0 x1) (kept x0 x1 x3) (bgRank x0 x1 x4)

/-- The matched boxes' coordinates, zero on rows not kept. -/
def y1 : FVec Ideal S5000x1 .f32 := k0_pay34 (k0_pay12 x1) (marks x0 x1) (kept x0 x1 x3)
/-- The left side of the matched box, zero if it is not kept. -/
def x1c : FVec Ideal S5000x1 .f32 := k0_pay35 (k0_pay13 x1) (marks x0 x1) (kept x0 x1 x3)
/-- The bottom side of the matched box, zero if it is not kept. -/
def y2 : FVec Ideal S5000x1 .f32 := k0_pay36 (k0_pay14 x1) (marks x0 x1) (kept x0 x1 x3)

/-- The four targets. -/
def targetY : FVec Ideal S5000x1 .f32 :=
  k0_pay45 (k0_pay31 (k0_pay8 x0) (k0_pay10 x0)) (k0_pay33 (k0_pay8 x0) (k0_pay10 x0)) (y1 x0 x1 x3) (y2 x0 x1 x3)

/-- The target of the horizontal centre. -/
def targetX : FVec Ideal S5000x1 .f32 :=
  k0_pay47 (k0_pay46 (marks x0 x1) (kept x0 x1 x3) (k0_pay30 (k0_pay9 x0) (k0_pay11 x0))
    (k0_pay32 (k0_pay9 x0) (k0_pay11 x0)) (x1c x0 x1 x3) (k0_pay37 (k0_pay15 x1)) (k0_pay38 (F := Ideal)))

/-- The target of the height. -/
def targetH : FVec Ideal S5000x1 .f32 :=
  k0_pay48 (k0_pay40 (y1 x0 x1 x3) (y2 x0 x1 x3)) (k0_pay42 (k0_pay31 (k0_pay8 x0) (k0_pay10 x0)))
    (k0_pay44 (y1 x0 x1 x3) (y2 x0 x1 x3))

/-- The target of the width. -/
def targetW : FVec Ideal S5000x1 .f32 :=
  k0_pay49 (k0_pay39 (marks x0 x1) (kept x0 x1 x3) (x1c x0 x1 x3) (k0_pay37 (k0_pay15 x1)) (k0_pay38 (F := Ideal)))
    (k0_pay41 (k0_pay30 (k0_pay9 x0) (k0_pay11 x0)))
    (k0_pay43 (marks x0 x1) (kept x0 x1 x3) (x1c x0 x1 x3) (k0_pay37 (k0_pay15 x1)) (k0_pay38 (F := Ideal)))

/-- The block of one-hot classes. -/
def labelBlock : Vec Ideal S1x5000x21 .f32 := k0_pay2 (classes x0 x1 x2 x3 x4)

/-- The block of targets, class by class. -/
def deltaBlock : Vec Ideal S1x5000x84 .f32 :=
  k0_pay1 (k0_pay51 (classes x0 x1 x2 x3 x4) (targetY x0 x1 x3) (targetX x0 x1 x3) (targetH x0 x1 x3)
    (targetW x0 x1 x3) (iota .tc S5000x84 32 [1] iota_S5000x84_d1_w32) (k0_pay50 (F := Ideal)) 4#32 0#32)

section Run

variable (c : Dev nD) (i : grid0.Coords) (arg1 : Memref sig .tc .vmem S1x5000x4 .f32) (harg1 : arg1.IsWhole)
  (arg2 : Memref sig .tc .vmem S1x4x128 .f32) (harg2 : arg2.IsWhole)
  (arg3 : Memref sig .tc .vmem S1x1x128 .f32) (harg3 : arg3.IsWhole)
  (arg4 : Memref sig .tc .vmem S1x5000x1 .i32) (harg4 : arg4.IsWhole)
  (arg5 : Memref sig .tc .vmem S1x5000x1 .i32) (harg5 : arg5.IsWhole)
  (arg6 : Memref sig .tc .vmem S1x5000x84 .f32) (harg6 : arg6.IsWhole)
  (arg7 : Memref sig .tc .vmem S1x5000x21 .f32) (harg7 : arg7.IsWhole)

/-- A grid step leaves the targets' block in the first output. -/
theorem out5_eq : out0_A_5 c i arg1 harg1 arg2 harg2 arg3 harg3 arg4 harg4 arg5 harg5 arg6 harg6 arg7 harg7
    x0 x1 x2 x3 x4 = deltaBlock x0 x1 x2 x3 x4 := by
  frame_out
  rfl

/-- A grid step leaves the classes' block in the second output. -/
theorem out6_eq : out0_A_6 c i arg1 harg1 arg2 harg2 arg3 harg3 arg4 harg4 arg5 harg5 arg6 harg6 arg7 harg7
    x0 x1 x2 x3 x4 = labelBlock x0 x1 x2 x3 x4 := by
  frame_out
  rfl

end Run

end Cert.KernelIdeal.Block

end
-- ==== Proof.Spec.lean ====
module

public import proofs.«01_k».proof.Proof.Order
public import Idealize.ShloMosaic.Lib.Pointwise

/-!
What both programs compute for one image, as functions of the image's region boxes, ground-truth boxes and labels, and
of the two orders in which entries are picked.
-/

set_option maxRecDepth 16384

@[expose] public section

noncomputable section

namespace Cert.Spec

open Idealize.ShloMosaic

/-- The extended reals the printed constants stand for. -/
abbrev lowest : EReal := Ideal.ofBits .f32 0xFF800000#32
/-- Minus one. -/
abbrev negOne : EReal := Ideal.ofBits .f32 0xBF800000#32
/-- One half. -/
abbrev half : EReal := Ideal.ofBits .f32 0x3F000000#32
/-- A tenth, rounded. -/
abbrev tenth : EReal := Ideal.ofBits .f32 0x3DCCCCCD#32
/-- A fifth, rounded. -/
abbrev fifth : EReal := Ideal.ofBits .f32 0x3E4CCCCD#32
/-- A thousandth, rounded. -/
abbrev thousandth : EReal := Ideal.ofBits .f32 0x3A83126F#32

/-- The area two boxes `(y1, x1, y2, x2)` share. -/
def inter (r g : Fin 4 → EReal) : EReal :=
  max (min (r 3) (g 3) - max (r 1) (g 1)) 0 * max (min (r 2) (g 2) - max (r 0) (g 0)) 0

/-- The area of a box. -/
def area (r : Fin 4 → EReal) : EReal := (r 2 - r 0) * (r 3 - r 1)

/-- Intersection over union. -/
def iou (r g : Fin 4 → EReal) : EReal := Ideal.div (inter r g) (area r + area g - inter r g)

/-- The largest of a row. -/
def best (f : Fin 100 → EReal) : EReal := Finset.univ.fold max lowest f

/-- The place of the first largest of a row: the first of the row sorted from the largest down. -/
def first (f : Fin 100 → EReal) : Fin 100 := sortedFrom (fun a b => decide (f b < f a)) 0

/-- Whether a best overlap makes a foreground candidate. -/
def fg (x : EReal) : Bool := decide (half < x)

/-- Whether a best overlap makes a background candidate. -/
def bg (x : EReal) : Bool := decide (x < half) && decide (tenth < x)

/-- The candidates among the 128 ranked first. -/
def picked (m : Fin 5000 → Bool) (rank : Fin 5000 → ℕ) (i : Fin 5000) : Bool :=
  m i && decide ((Finset.univ.filter fun j => m j = true ∧ rank j < rank i).card < 128)

/-- The class word of an entry: its matched label if picked as foreground, else minus one; one more if picked as
    background. -/
def classOf (p q : Bool) (l : BitVec 32) : BitVec 32 := (if p then l else 4294967295#32) + (if q then 1#32 else 0#32)

/-- A side as a divisor: zero gives way to `d`. -/
def safe (d x : EReal) : EReal := if x = 0 then d else x

/-- The four regression targets of a region box against a matched box. -/
def delta (r g : Fin 4 → EReal) : Fin 4 → EReal :=
  ![Ideal.div (if g 2 - g 0 = 0 then 0 else
      Ideal.div ((g 0 + half * (g 2 - g 0)) - (r 0 + half * (r 2 - r 0))) (safe thousandth (r 2 - r 0))) tenth,
    Ideal.div (if g 3 - g 1 = 0 then 0 else
      Ideal.div ((g 1 + half * (g 3 - g 1)) - (r 1 + half * (r 3 - r 1))) (safe thousandth (r 3 - r 1))) tenth,
    Ideal.div (if g 2 - g 0 = 0 then 0 else
      Ideal.log (Ideal.div (safe 1 (g 2 - g 0)) (safe thousandth (r 2 - r 0)))) fifth,
    Ideal.div (if g 3 - g 1 = 0 then 0 else
      Ideal.log (Ideal.div (safe 1 (g 3 - g 1)) (safe thousandth (r 3 - r 1)))) fifth]

section Image

variable (roi : Fin 5000 → Fin 4 → EReal) (gt : Fin 100 → Fin 4 → EReal) (lab : Fin 100 → BitVec 32)
  (rp rn : Fin 5000 → ℕ)

/-- Overlaps of region box `i`. -/
def row (i : Fin 5000) (k : Fin 100) : EReal := iou (roi i) (gt k)

/-- Entry `i` is kept as foreground. -/
def isFg (i : Fin 5000) : Bool := picked (fun j => fg (best (row roi gt j))) rp i

/-- Entry `i` is kept as background. -/
def isBg (i : Fin 5000) : Bool := picked (fun j => bg (best (row roi gt j))) rn i

/-- The class word of entry `i`. -/
def classAt (i : Fin 5000) : BitVec 32 :=
  classOf (isFg roi gt rp i) (isBg roi gt rn i) (lab (first (row roi gt i)))

/-- The matched box of entry `i`, all zero if it is not kept as foreground. -/
def boxAt (i : Fin 5000) (k : Fin 4) : EReal := if isFg roi gt rp i then gt (first (row roi gt i)) k else 0

/-- The one-hot entry of class `a`. -/
def hotAt (i : Fin 5000) (a : Fin 21) : EReal := if classAt roi gt lab rp rn i = BitVec.ofNat 32 a.val then 1 else 0

/-- The target `k` at class `a`. -/
def deltaAt (i : Fin 5000) (a : Fin 21) (k : Fin 4) : EReal :=
  hotAt roi gt lab rp rn i a * delta (roi i) (boxAt roi gt rp i) k

end Image

end Cert.Spec

end
-- ==== Proof.RowMax.lean ====
module

public import proofs.«01_k».proof.Proof.Spec
public import Mathlib.Tactic.Ring
public import Mathlib.Tactic.Linarith

/-!
A row of 100 overlaps read as a row of 128, the other places holding minus one: the same thresholds are passed, and
above one half the same place holds the first maximum.
-/

set_option maxRecDepth 16384

@[expose] public section

noncomputable section

namespace Cert.Spec

open Idealize.ShloMosaic

/-- The pattern of minus one is the real minus one. -/
theorem negOne_eq : negOne = ((-(1 : ℝ) : ℝ) : EReal) := by
  simp [Ideal.ofBits, Ideal.ieee, -EReal.coe_mul, -EReal.coe_neg]; norm_num

/-- The pattern of one half is not below zero. -/
theorem half_nonneg : ((0 : ℝ) : EReal) ≤ half := by
  simp only [Ideal.ofBits, Ideal.ieee]
  simp [-EReal.coe_mul, -EReal.coe_neg, -EReal.coe_zero]

/-- A tenth is not negative. -/
theorem tenth_nonneg : ((0 : ℝ) : EReal) ≤ tenth := by
  simp only [Ideal.ofBits, Ideal.ieee]
  simp [-EReal.coe_mul, -EReal.coe_neg, -EReal.coe_zero]

/-- Minus one lies below a half. -/
theorem negOne_lt_half : negOne < half :=
  lt_of_lt_of_le (by rw [negOne_eq]; exact_mod_cast (by norm_num : (-(1 : ℝ)) < 0)) half_nonneg

/-- Minus one lies below a tenth. -/
theorem negOne_lt_tenth : negOne < tenth :=
  lt_of_lt_of_le (by rw [negOne_eq]; exact_mod_cast (by norm_num : (-(1 : ℝ)) < 0)) tenth_nonneg

/-- The row of 128. -/
def padded (f : Fin 100 → EReal) (k : Fin 128) : EReal := if h : k.val < 100 then f ⟨k.val, h⟩ else negOne

/-- The largest of the row of 128. -/
def wideBest (g : Fin 128 → EReal) : EReal := Finset.univ.fold max lowest g

/-- The largest of the padded row exceeds a bound above minus one when the largest of the row does. -/
theorem lt_wideBest {f : Fin 100 → EReal} {c : EReal} (hc : negOne < c) :
    c < wideBest (padded f) ↔ c < best f := by
  rw [wideBest, best, Finset.lt_fold_max, Finset.lt_fold_max]
  refine or_congr Iff.rfl ⟨fun ⟨k, _, h⟩ => ?_, fun ⟨k, _, h⟩ => ⟨⟨k.val, by omega⟩, Finset.mem_univ _, ?_⟩⟩
  · unfold padded at h
    split at h
    · exact ⟨_, Finset.mem_univ _, h⟩
    · exact absurd (h.trans hc) (lt_irrefl _)
  · unfold padded
    rw [dif_pos k.isLt]
    exact h

/-- The largest of the padded row lies below a bound above minus one when the largest of the row does. -/
theorem wideBest_lt {f : Fin 100 → EReal} {c : EReal} (hc : negOne < c) :
    wideBest (padded f) < c ↔ best f < c := by
  rw [wideBest, best, Finset.fold_max_lt, Finset.fold_max_lt]
  refine and_congr Iff.rfl ⟨fun h k _ => ?_, fun h k _ => ?_⟩
  · have := h ⟨k.val, by omega⟩ (Finset.mem_univ _)
    unfold padded at this
    rwa [dif_pos k.isLt] at this
  · unfold padded
    split
    · exact h _ (Finset.mem_univ _)
    · exact hc

/-- The foreground test does not see the places added. -/
theorem fg_wideBest (f : Fin 100 → EReal) : fg (wideBest (padded f)) = fg (best f) := by
  unfold fg; rw [decide_eq_decide]; exact lt_wideBest negOne_lt_half

/-- Nor does the background test. -/
theorem bg_wideBest (f : Fin 100 → EReal) : bg (wideBest (padded f)) = bg (best f) := by
  unfold bg
  congr 1 <;> rw [decide_eq_decide]
  · exact wideBest_lt negOne_lt_half
  · exact lt_wideBest negOne_lt_tenth

/-- No best overlap is a candidate for both. -/
theorem fg_bg (x : EReal) : (fg x && bg x) = false := by
  unfold fg bg
  by_cases h : half < x
  · simp [h, h.le]
  · simp [h]

/-- Ties broken by place, an order from the largest down is total. -/
theorem broken_down (f : Fin 100 → EReal) :
    StrictTotalBefore (Cert.Order.broken fun i j : Fin 100 => decide (f j < f i)) := by
  have e : ∀ i j, Cert.Order.broken (fun i j : Fin 100 => decide (f j < f i)) i j = true ↔
      f j < f i ∨ (f i = f j ∧ i < j) := fun i j => by
    simp only [Cert.Order.broken, Bool.or_eq_true, Bool.and_eq_true, Bool.not_eq_true', decide_eq_true_eq,
      decide_eq_false_iff_not, not_lt]
    constructor
    · rintro (h | ⟨h, h'⟩)
      · exact .inl h
      · rcases h.lt_or_eq with h2 | h2
        · exact .inl h2
        · exact .inr ⟨h2.symm, h'⟩
    · rintro (h | ⟨h, h'⟩)
      · exact .inl h
      · exact .inr ⟨h.symm.le, h'⟩
  refine { irrefl := fun a => ?_, trans := fun a b c h h' => ?_, total := fun a b hab => ?_ }
  · rw [Bool.eq_false_iff, Ne, e]
    rintro (h | ⟨_, h⟩) <;> exact lt_irrefl _ h
  · rw [e] at h h' ⊢
    rcases h with h | ⟨h, k⟩ <;> rcases h' with h' | ⟨h', k'⟩
    · exact .inl (h'.trans h)
    · exact .inl (h' ▸ h)
    · exact .inl (h ▸ h')
    · exact .inr ⟨h.trans h', k.trans k'⟩
  · rw [e, e]
    rcases lt_trichotomy (f a) (f b) with h | h | h
    · exact .inr (.inl h)
    · rcases lt_or_gt_of_ne hab with k | k
      · exact .inl (.inr ⟨h, k⟩)
      · exact .inr (.inr ⟨h.symm, k⟩)
    · exact .inl (.inl h)

/-- Every other entry of a row is below its first largest, or equal and later. -/
theorem first_spec (f : Fin 100 → EReal) (k : Fin 100) (hk : k ≠ first f) :
    f k < f (first f) ∨ (f (first f) = f k ∧ first f < k) := by
  have hB := broken_down f
  have hasym : ∀ a b : Fin 100, decide (f b < f a) = true → decide (f a < f b) = false := fun a b h => by
    rw [decide_eq_true_eq] at h
    rw [decide_eq_false_iff_not]
    exact not_lt.mpr h.le
  have hf : first f = sortedFrom (Cert.Order.broken fun i j : Fin 100 => decide (f j < f i)) 0 := by
    unfold first
    exact congrFun (Cert.Order.sortedFrom_broken _ hasym) 0
  have hp := Cert.Order.place_sortedFrom hB 0
  rw [← hf] at hp
  have hno : ¬ Cert.Order.broken (fun i j : Fin 100 => decide (f j < f i)) k (first f) = true := fun h => by
    have : k ∈ (Finset.univ.filter fun j =>
        Cert.Order.broken (fun i j : Fin 100 => decide (f j < f i)) j (first f) = true) :=
      Finset.mem_filter.mpr ⟨Finset.mem_univ _, h⟩
    rw [Finset.card_eq_zero.mp hp] at this
    exact absurd this (Finset.notMem_empty _)
  have hyes := (hB.total (first f) k (Ne.symm hk)).resolve_right hno
  simp only [Cert.Order.broken, Bool.or_eq_true, Bool.and_eq_true, Bool.not_eq_true', decide_eq_true_eq,
    decide_eq_false_iff_not, not_lt] at hyes
  rcases hyes with h | ⟨h, h'⟩
  · exact .inl h
  · rcases h.lt_or_eq with h2 | h2
    · exact .inl h2
    · exact .inr ⟨h2.symm, h'⟩

/-- The place of the first largest, among 128. -/
def wideFirst (f : Fin 100 → EReal) : Fin 128 := ⟨(first f).val, by omega⟩

/-- The padded row at its first largest is the row at its own. -/
theorem padded_first (f : Fin 100 → EReal) : padded f (wideFirst f) = f (first f) := by
  unfold padded wideFirst
  rw [dif_pos (first f).isLt]

/-- Above one half, the largest of the row of 128 is at the first largest of the row. -/
theorem wideBest_eq (f : Fin 100 → EReal) (h : fg (best f) = true) :
    wideBest (padded f) = padded f (wideFirst f) := by
  have hle : ∀ k, padded f k ≤ padded f (wideFirst f) ∨ padded f k = negOne := fun k => by
    rw [padded_first]
    unfold padded
    split
    · rename_i hk
      left
      by_cases e : (⟨k.val, hk⟩ : Fin 100) = first f
      · rw [e]
      · rcases first_spec f _ e with h' | ⟨h', _⟩
        · exact h'.le
        · exact h'.symm.le
    · exact .inr rfl
  rw [← fg_wideBest, fg, decide_eq_true_eq] at h
  refine le_antisymm ?_ ?_
  · have hb := h
    rw [wideBest, Finset.lt_fold_max] at hb
    have hhalf : half < padded f (wideFirst f) := by
      rcases hb with hb | ⟨k, _, hb⟩
      · exact absurd hb (not_lt.mpr (by
          have : lowest = ⊥ := by simp [Ideal.ofBits, Ideal.ieee]
          rw [this]; exact bot_le))
      · rcases hle k with h' | h'
        · exact lt_of_lt_of_le hb h'
        · rw [h'] at hb; exact absurd (hb.trans negOne_lt_half) (lt_irrefl _)
    rw [wideBest, Finset.fold_max_le]
    refine ⟨?_, fun k _ => ?_⟩
    · have : lowest = ⊥ := by simp [Ideal.ofBits, Ideal.ieee]
      rw [this]; exact bot_le
    · rcases hle k with h' | h'
      · exact h'
      · rw [h']; exact (negOne_lt_half.trans hhalf).le
  · rw [wideBest, Finset.le_fold_max]
    exact .inr ⟨_, Finset.mem_univ _, le_rfl⟩

/-- The least of finitely many words read signed, when one of them is known to be least. -/
theorem fold_minsi {ι : Type} [Fintype ι] [DecidableEq ι] (w : ι → BitVec 32) (init : BitVec 32) (p : ι)
    (hp : ∀ k, (w p).toInt ≤ (w k).toInt) (hi : (w p).toInt ≤ init.toInt) :
    Finset.univ.fold IntOp.minsi init w = w p := by
  have hle : ∀ S : Finset ι, (w p).toInt ≤ (S.fold IntOp.minsi init w).toInt := fun S => by
    induction S using Finset.induction_on with
    | empty => exact hi
    | insert a S ha ih =>
      rw [Finset.fold_insert ha, IntOp.minsi]
      split
      · exact hp a
      · exact ih
  rw [← Finset.insert_erase (Finset.mem_univ p), Finset.fold_insert (Finset.notMem_erase p _), IntOp.minsi]
  split
  · rfl
  · rename_i h
    have h1 := hle (Finset.univ.erase p)
    rw [BitVec.slt_eq_decide, decide_eq_true_eq] at h
    exact BitVec.eq_of_toInt_eq (by omega)

/-- Above one half, the place marked in the row of 128 is the first largest's alone. -/
theorem marked (f : Fin 100 → EReal) (h : fg (best f) = true) (k : Fin 128) :
    IntOp.cmpi .eq (BitVec.ofNat 32 k.val)
      (Finset.univ.fold IntOp.minsi 2147483647#32 fun x : Fin 128 =>
        if padded f x = wideBest (padded f) then BitVec.ofNat 32 x.val else 128#32)
      = BitVec.ofBool (decide (k = wideFirst f)) := by
  have hi : ∀ x : Fin 128, (BitVec.ofNat 32 x.val).toInt = (x.val : ℤ) := fun x => Cert.Order.toInt_ofNat (by omega)
  have e := fold_minsi (fun x : Fin 128 =>
      if padded f x = wideBest (padded f) then BitVec.ofNat 32 x.val else 128#32) 2147483647#32 (wideFirst f)
    (fun x => by
      beta_reduce
      rw [if_pos (wideBest_eq f h).symm, hi]
      split
      · rename_i hx
        rw [hi]
        rw [wideBest_eq f h, padded_first] at hx
        by_contra hlt
        have hx100 : x.val < 100 := by have := (wideFirst f).isLt; have := (first f).isLt; simp only [wideFirst] at hlt; omega
        unfold padded at hx
        rw [dif_pos hx100] at hx
        have hne : (⟨x.val, hx100⟩ : Fin 100) ≠ first f := fun e => by
          simp only [wideFirst, ← e] at hlt; omega
        rcases first_spec f _ hne with h' | ⟨_, h'⟩
        · exact absurd hx h'.ne
        · simp only [Fin.lt_def] at h'
          simp only [wideFirst] at hlt
          omega
      · have : (128#32 : BitVec 32).toInt = 128 := by decide
        have := (wideFirst f).isLt
        omega)
    (by
      beta_reduce
      rw [if_pos (wideBest_eq f h).symm, hi]
      have : (2147483647#32 : BitVec 32).toInt = 2147483647 := by decide
      have := (wideFirst f).isLt
      omega)
  rw [e]
  beta_reduce
  rw [if_pos (wideBest_eq f h).symm]
  show BitVec.ofBool (BitVec.ofNat 32 k.val == BitVec.ofNat 32 (wideFirst f).val) = _
  refine congrArg BitVec.ofBool ?_
  rw [Bool.eq_iff_iff, beq_iff_eq, decide_eq_true_eq]
  constructor
  · intro h
    have := congrArg BitVec.toInt h
    rw [hi, hi] at this
    exact Fin.ext (by omega)
  · rintro rfl; rfl

/-- A sum that keeps the one marked place is the value there. -/
theorem sum_marked (v : Fin 128 → EReal) (b : Fin 128 → BitVec 1) (p : Fin 128)
    (hb : ∀ k, b k = BitVec.ofBool (decide (k = p))) : ∑ k, Scalar.select (b k) (v k) 0 = v p := by
  rw [Finset.sum_eq_single p]
  · rw [hb, Scalar.select]; simp
  · intro k _ hk
    rw [hb, Scalar.select]; simp [hk]
  · intro h; exact absurd (Finset.mem_univ p) h

end Cert.Spec

end
-- ==== Proof.KernelRows.lean ====
module

public import proofs.«01_k».proof.Proof.KernelOut
public import proofs.«01_k».proof.Proof.RowMax

/-! The kernel's block for one image, row by row: overlaps, candidates, marks and counts. -/

set_option maxRecDepth 16384

@[expose] public section

noncomputable section

namespace Cert.KernelIdeal.Block

open Idealize.ShloMosaic Idealize.ShloMosaic.TcCoe Idealize.ShloMosaic.Tactic Cert.KernelIdeal.Gen
open Cert.Spec

/-- The five blocks hold one image: its region boxes, its ground-truth boxes turned and padded with zeros, its labels
    as numbers likewise padded, and the two rank columns. -/
structure Image (x0 : Vec Ideal S1x5000x4 .f32) (x1 : Vec Ideal S1x4x128 .f32) (x2 : Vec Ideal S1x1x128 .f32)
    (x3 x4 : Vec Ideal S1x5000x1 .i32) (roi : Fin 5000 → Fin 4 → EReal) (gt : Fin 100 → Fin 4 → EReal)
    (lab : Fin 100 → BitVec 32) (rp rn : Fin 5000 → ℕ) : Prop where
  box : ∀ i k, x0 (ix3 0 i k) = roi i k
  truth : ∀ (r : Fin 4) (k : Fin 128) (h : k.val < 100), x1 (ix3 0 r k) = gt ⟨k.val, h⟩ r
  label : ∀ (k : Fin 128) (h : k.val < 100), x2 (ix3 0 0 k) = (((lab ⟨k.val, h⟩).toInt : ℝ) : EReal)
  fgOrder : ∀ i, x3 (ix3 0 i 0) = BitVec.ofNat 32 (rp i)
  bgOrder : ∀ i, x4 (ix3 0 i 0) = BitVec.ofNat 32 (rn i)
  fgPlace : ∀ i, rp i < 5000
  bgPlace : ∀ i, rn i < 5000

variable {x0 : Vec Ideal S1x5000x4 .f32} {x1 : Vec Ideal S1x4x128 .f32} {x2 : Vec Ideal S1x1x128 .f32}
  {x3 x4 : Vec Ideal S1x5000x1 .i32} {roi : Fin 5000 → Fin 4 → EReal} {gt : Fin 100 → Fin 4 → EReal}
  {lab : Fin 100 → BitVec 32} {rp rn : Fin 5000 → ℕ}

/-- The overlaps are those of the image, minus one past the hundredth. -/
theorem scores_apply (h : Image x0 x1 x2 x3 x4 roi gt lab rp rn) (i : Fin 5000) (k : Fin 128) :
    scores x0 x1 (ix2 i k) = padded (row roi gt i) k := by
  have hlt : IntOp.cmpi .slt (BitVec.ofNat 32 k.val) 100#32 = BitVec.ofBool (decide (k.val < 100)) := by
    show BitVec.ofBool ((BitVec.ofNat 32 k.val).slt (BitVec.ofNat 32 100)) = _
    rw [Threshold.slt_ofNat (by omega) (by omega)]
  pointwise [scores, k0_pay20, k0_pay16, k0_pay17, k0_pay18, k0_pay19, k0_pay8, k0_pay9, k0_pay10, k0_pay11, k0_pay12,
    k0_pay13, k0_pay14, k0_pay15, k0_pay3, k0_pay4]
  rw [hlt, padded]
  by_cases hk : k.val < 100
  · rw [dif_pos hk, decide_eq_true hk]
    simp only [h.box, h.truth _ k hk]
    rfl
  · rw [dif_neg hk, decide_eq_false hk]
    rfl

/-- Each row's largest. -/
theorem top_apply (h : Image x0 x1 x2 x3 x4 roi gt lab rp rn) (i : Fin 5000) :
    k0_pay21 (k0_pay16 x0) (k0_pay17 x1) (k0_pay18 x0 x1) (k0_pay19 x0 x1) (ix2 i 0)
      = wideBest (padded (row roi gt i)) := by
  pointwise [k0_pay21]
  have e : (fun x => k0_pay20 (k0_pay16 x0) (k0_pay17 x1) (k0_pay18 x0 x1) (k0_pay19 x0 x1) (ix2 i x))
      = padded (row roi gt i) := funext fun x => scores_apply h i x
  rw [e]
  rfl

/-- The foreground candidates of the block. -/
theorem fgMask_apply (h : Image x0 x1 x2 x3 x4 roi gt lab rp rn) (i : Fin 5000) :
    fgMask x0 x1 (ix2 i 0) = BitVec.ofBool (fg (best (row roi gt i))) := by
  pointwise [fgMask, k0_pay24]
  rw [top_apply h, ← fg_wideBest]
  rfl

/-- The background candidates of the block. -/
theorem bgMask_apply (h : Image x0 x1 x2 x3 x4 roi gt lab rp rn) (i : Fin 5000) :
    bgMask x0 x1 (ix2 i 0) = BitVec.ofBool (bg (best (row roi gt i))) := by
  pointwise [bgMask, k0_pay25]
  rw [top_apply h, ← bg_wideBest, bg]
  generalize decide (wideBest (padded (row roi gt i)) < Ideal.ofBits FTy.f32 1056964608#32) = a
  generalize decide (Ideal.ofBits FTy.f32 1036831949#32 < wideBest (padded (row roi gt i))) = b
  cases a <;> cases b <;> rfl

/-- On a foreground candidate's row the mark is at the first largest overlap alone. -/
theorem marks_apply (h : Image x0 x1 x2 x3 x4 roi gt lab rp rn) (i : Fin 5000)
    (hf : fg (best (row roi gt i)) = true) (k : Fin 128) :
    marks x0 x1 (ix2 i k) = BitVec.ofBool (decide (k = wideFirst (row roi gt i))) := by
  pointwise [marks, k0_pay22]
  rw [← marked (row roi gt i) hf k, top_apply h]
  have e : ∀ x, k0_pay20 (k0_pay16 x0) (k0_pay17 x1) (k0_pay18 x0 x1) (k0_pay19 x0 x1) (ix2 i x)
      = padded (row roi gt i) x := fun x => scores_apply h i x
  simp only [e]

/-- A bit and a comparison of small words, as one truth value. -/
theorem ofBool_and_sle (b : Bool) {a c : ℕ} (ha : a < 2147483648) (hc : c < 2147483648) :
    IntOp.andi (BitVec.ofBool b) (IntOp.cmpi .sle (BitVec.ofNat 32 a) (BitVec.ofNat 32 c))
      = BitVec.ofBool (b && decide (a ≤ c)) := by
  have : IntOp.cmpi .sle (BitVec.ofNat 32 a) (BitVec.ofNat 32 c) = BitVec.ofBool (decide (a ≤ c)) := by
    show BitVec.ofBool ((BitVec.ofNat 32 a).sle (BitVec.ofNat 32 c)) = _
    rw [Threshold.sle_ofNat ha hc]
  rw [this]
  generalize decide (a ≤ c) = d
  cases b <;> cases d <;> rfl

/-- The kernel's count, for a mask and ranks given as words. -/
theorem count_words (b : Fin 5000 → BitVec 1) (w : Fin 5000 → BitVec 32) (m : Fin 5000 → Bool) (rank : Fin 5000 → ℕ)
    (hb : ∀ j, b j = BitVec.ofBool (m j)) (hw : ∀ j, w j = BitVec.ofNat 32 (rank j)) (hr : ∀ j, rank j < 5000) (t : ℕ)
    (ht : t < 2147483648) :
    Finset.univ.fold IntOp.addi 0#32 (fun x : Fin 5000 × Fin 1 =>
        Scalar.select (IntOp.andi (b x.1) (IntOp.cmpi .sle (w x.1) (BitVec.ofNat 32 t))) 1#32 0#32)
      = BitVec.ofNat 32 (Threshold.upTo (fun j => m j = true) rank t) := by
  rw [Threshold.fold_count fun j => IntOp.andi (b j) (IntOp.cmpi .sle (w j) (BitVec.ofNat 32 t)), Threshold.upTo]
  congr 2
  refine Finset.filter_congr fun j _ => ?_
  rw [hb, hw, ofBool_and_sle _ (by have := hr j; omega) ht]
  by_cases hj : rank j ≤ t <;> cases m j <;> simp [hj]

/-- No more candidates lie up to a rank than there are ranks. -/
theorem upTo_le (m : Fin 5000 → Bool) (rank : Fin 5000 → ℕ) (t : ℕ) :
    Threshold.upTo (fun j => m j = true) rank t ≤ 5000 :=
  (Finset.card_filter_le _ _).trans (by simp)

/-- The kernel's foreground count, as a sum over the rows. -/
theorem fgCount_fold (a : BitVec 32 × BitVec 32) :
    fgCount x0 x1 x3 a = Finset.univ.fold IntOp.addi 0#32 (fun x : Fin 5000 × Fin 1 =>
      Scalar.select (IntOp.andi (fgMask x0 x1 (ix2 x.1 0))
        (IntOp.cmpi .sle (x3 (ix3 0 x.1 0)) (Threshold.midW (Scalar.addi a.1 a.2)))) 1#32 0#32) := by
  unfold fgMask Threshold.midW
  pointwise [fgCount, k0_pay26, k0_pay6]
  exact Finset.fold_congr fun x _ => by rw [Subsingleton.elim x.2 (0 : Fin 1)]

/-- The kernel's background count, as a sum over the rows. -/
theorem bgCount_fold (a : BitVec 32 × BitVec 32) :
    bgCount x0 x1 x4 a = Finset.univ.fold IntOp.addi 0#32 (fun x : Fin 5000 × Fin 1 =>
      Scalar.select (IntOp.andi (bgMask x0 x1 (ix2 x.1 0))
        (IntOp.cmpi .sle (x4 (ix3 0 x.1 0)) (Threshold.midW (Scalar.addi a.1 a.2)))) 1#32 0#32) := by
  unfold Threshold.midW
  pointwise [bgCount, k0_pay28, k0_pay7]
  exact Finset.fold_congr fun x _ => by rw [Subsingleton.elim x.2 (0 : Fin 1)]

/-- The middle of two bounds, as the kernel's word. -/
theorem mid_words (s : ℕ × ℕ) (h1 : s.1 ≤ 5000) (h2 : s.2 ≤ 5000) :
    Threshold.midW (Scalar.addi (Threshold.words s).1 (Threshold.words s).2) = BitVec.ofNat 32 ((s.1 + s.2) / 2) := by
  rw [← Threshold.midW_ofNat (s := s.1 + s.2) (by omega)]
  refine congrArg Threshold.midW ?_
  show BitVec.ofNat 32 s.1 + BitVec.ofNat 32 s.2 = _
  rw [BitVec.ofNat_add]

/-- The foreground count at the middle of two bounds. -/
theorem fgCount_words (h : Image x0 x1 x2 x3 x4 roi gt lab rp rn) (s : ℕ × ℕ) (h1 : s.1 ≤ 5000) (h2 : s.2 ≤ 5000) :
    fgCount x0 x1 x3 (Threshold.words s)
      = BitVec.ofNat 32 (Threshold.upTo (fun j => fg (best (row roi gt j)) = true) rp ((s.1 + s.2) / 2)) := by
  rw [fgCount_fold, mid_words s h1 h2]
  exact count_words (fun j => fgMask x0 x1 (ix2 j 0)) (fun j => x3 (ix3 0 j 0)) _ rp (fgMask_apply h) h.fgOrder
    h.fgPlace ((s.1 + s.2) / 2) (by omega)

/-- The background count at the middle of two bounds. -/
theorem bgCount_words (h : Image x0 x1 x2 x3 x4 roi gt lab rp rn) (s : ℕ × ℕ) (h1 : s.1 ≤ 5000) (h2 : s.2 ≤ 5000) :
    bgCount x0 x1 x4 (Threshold.words s)
      = BitVec.ofNat 32 (Threshold.upTo (fun j => bg (best (row roi gt j)) = true) rn ((s.1 + s.2) / 2)) := by
  rw [bgCount_fold, mid_words s h1 h2]
  exact count_words (fun j => bgMask x0 x1 (ix2 j 0)) (fun j => x4 (ix3 0 j 0)) _ rn (bgMask_apply h) h.bgOrder
    h.bgPlace ((s.1 + s.2) / 2) (by omega)

/-- The padded row has its first largest at the same place. -/
theorem wideFirst_val (f : Fin 100 → EReal) : (wideFirst f).val = (first f).val := by
  simp only [wideFirst]

/-- The first largest of the padded row is not a padding column. -/
theorem wideFirst_lt (f : Fin 100 → EReal) : (wideFirst f).val < 100 := by
  have := wideFirst_val f
  omega

/-- Places with equal numbers are equal. -/
theorem narrow_eq (p : Fin 128) (q : Fin 100) (hp : p.val < 100) (h : p.val = q.val) : (⟨p.val, hp⟩ : Fin 100) = q :=
  Fin.ext h

/-- The first largest of the padded row is the first largest of the row. -/
theorem wideFirst_narrow (f : Fin 100 → EReal) : (⟨(wideFirst f).val, wideFirst_lt f⟩ : Fin 100) = first f :=
  narrow_eq _ _ _ (wideFirst_val f)

/-- The matched box's coordinate, read from the turned and padded block. -/
theorem truth_first (h : Image x0 x1 x2 x3 x4 roi gt lab rp rn) (f : Fin 100 → EReal) (r : Fin 4) :
    x1 (ix3 0 r (wideFirst f)) = gt (first f) r := by
  rw [h.truth r (wideFirst f) (wideFirst_lt f), wideFirst_narrow]

/-- The matched label, read from the padded block. -/
theorem label_first (h : Image x0 x1 x2 x3 x4 roi gt lab rp rn) (f : Fin 100 → EReal) :
    x2 (ix3 0 0 (wideFirst f)) = (((lab (first f)).toInt : ℝ) : EReal) := by
  rw [h.label (wideFirst f) (wideFirst_lt f), wideFirst_narrow]

end Cert.KernelIdeal.Block

end
-- ==== Proof.KernelValue.lean ====
module

public import proofs.«01_k».proof.Proof.KernelRows

/-! The kernel's two output blocks, entry by entry: they hold the targets and the one-hot classes of `Spec`. -/

set_option maxRecDepth 16384

@[expose] public section

noncomputable section

namespace Cert.KernelIdeal.Block

open Idealize.ShloMosaic Idealize.ShloMosaic.TcCoe Idealize.ShloMosaic.Tactic Cert.KernelIdeal.Gen
open Cert.Spec

variable {x0 : Vec Ideal S1x5000x4 .f32} {x1 : Vec Ideal S1x4x128 .f32} {x2 : Vec Ideal S1x1x128 .f32}
  {x3 x4 : Vec Ideal S1x5000x1 .i32} {roi : Fin 5000 → Fin 4 → EReal} {gt : Fin 100 → Fin 4 → EReal}
  {lab : Fin 100 → BitVec 32} {rp rn : Fin 5000 → ℕ}

/-- The rank settled on for the foreground. -/
theorem fgRank_eq (h : Image x0 x1 x2 x3 x4 roi gt lab rp rn) :
    fgRank x0 x1 x3
      = BitVec.ofNat 32 (Threshold.settled (Threshold.upTo (fun j => fg (best (row roi gt j)) = true) rp)) :=
  Threshold.fold_settled (by decide) _ _ (Threshold.upTo_mono _ _) (fgCount_words h) (upTo_le _ _)

/-- The rank settled on for the background. -/
theorem bgRank_eq (h : Image x0 x1 x2 x3 x4 roi gt lab rp rn) :
    bgRank x0 x1 x4
      = BitVec.ofNat 32 (Threshold.settled (Threshold.upTo (fun j => bg (best (row roi gt j)) = true) rn)) :=
  Threshold.fold_settled (by decide) _ _ (Threshold.upTo_mono _ _) (bgCount_words h) (upTo_le _ _)

/-- Candidates up to the rank settled on are the 128 ranked first. -/
theorem settled_picked (m : Fin 5000 → Bool) (rank : Fin 5000 → ℕ) (hr : ∀ j, rank j < 5000) (i : Fin 5000) :
    (m i && decide (rank i ≤ Threshold.settled (Threshold.upTo (fun j => m j = true) rank))) = picked m rank i := by
  rw [picked]
  refine congrArg (m i && ·) ?_
  rw [decide_eq_decide]
  exact Threshold.rank_le_settled _ _ hr i

/-- The rows kept as foreground. -/
theorem kept_apply (h : Image x0 x1 x2 x3 x4 roi gt lab rp rn) (i : Fin 5000) :
    kept x0 x1 x3 (ix2 i 0) = BitVec.ofBool (isFg roi gt rp i) := by
  have e : kept x0 x1 x3 (ix2 i 0)
      = IntOp.andi (fgMask x0 x1 (ix2 i 0)) (IntOp.cmpi .sle (x3 (ix3 0 i 0)) (fgRank x0 x1 x3)) := by
    pointwise [kept, k0_pay27, k0_pay6, fgMask]
  have hs := Threshold.settled_le (Threshold.upTo_mono (fun j => fg (best (row roi gt j)) = true) rp)
  rw [e, fgMask_apply h, h.fgOrder, fgRank_eq h, ofBool_and_sle _ (by have := h.fgPlace i; omega) (by omega),
    settled_picked (fun j => fg (best (row roi gt j))) rp h.fgPlace]
  rfl

/-- A foreground pick is a foreground candidate. -/
theorem isFg_fg {i : Fin 5000} (hk : isFg roi gt rp i = true) : fg (best (row roi gt i)) = true := by
  rw [isFg, picked, Bool.and_eq_true] at hk
  exact hk.1

/-- A background pick is a background candidate. -/
theorem isBg_bg {i : Fin 5000} (hk : isBg roi gt rn i = true) : bg (best (row roi gt i)) = true := by
  rw [isBg, picked, Bool.and_eq_true] at hk
  exact hk.1

/-- No row is kept twice. -/
theorem not_both (i : Fin 5000) (h1 : isFg roi gt rp i = true) (h2 : isBg roi gt rn i = true) : False := by
  have := fg_bg (best (row roi gt i))
  rw [isFg_fg h1, isBg_bg h2] at this
  exact Bool.noConfusion this

/-- Each row's class is the number its class word stands for. -/
theorem classes_apply (h : Image x0 x1 x2 x3 x4 roi gt lab rp rn) (i : Fin 5000) :
    classes x0 x1 x2 x3 x4 (ix2 i 0) = (((classAt roi gt lab rp rn i).toInt : ℝ) : EReal) := by
  have e : classes x0 x1 x2 x3 x4 (ix2 i 0)
      = Scalar.select (kept x0 x1 x3 (ix2 i 0)) (matched x0 x1 x2 (ix2 i 0)) negOne
        + Scalar.select (IntOp.andi (bgMask x0 x1 (ix2 i 0)) (IntOp.cmpi .sle (x4 (ix3 0 i 0)) (bgRank x0 x1 x4)))
          (1 : EReal) 0 := by
    pointwise [classes, k0_pay29, k0_pay7]
  have hs := Threshold.settled_le (Threshold.upTo_mono (fun j => bg (best (row roi gt j)) = true) rn)
  rw [e, kept_apply h, bgMask_apply h, h.bgOrder, bgRank_eq h,
    ofBool_and_sle _ (by have := h.bgPlace i; omega) (by omega),
    settled_picked (fun j => bg (best (row roi gt j))) rn h.bgPlace]
  change Scalar.select _ _ _ + Scalar.select (BitVec.ofBool (isBg roi gt rn i)) _ _ = _
  unfold classAt
  by_cases hp : isFg roi gt rp i = true
  · have hq : isBg roi gt rn i = false := by
      by_contra hq
      exact not_both i hp (by simpa using hq)
    have hm : matched x0 x1 x2 (ix2 i 0) = (((lab (first (row roi gt i))).toInt : ℝ) : EReal) := by
      have e2 : matched x0 x1 x2 (ix2 i 0) = ∑ k, Scalar.select (marks x0 x1 (ix2 i k)) (x2 (ix3 0 0 k)) 0 := by
        pointwise [matched, k0_pay23, k0_pay5]
        rfl
      rw [e2, sum_marked _ _ _ (marks_apply h i (isFg_fg hp)), label_first h]
    rw [hp, hq, hm]
    simp [Scalar.select, classOf]
  · rw [Bool.not_eq_true] at hp
    rw [hp, negOne_eq]
    cases isBg roi gt rn i
    · simp [Scalar.select, classOf]
    · have e1 : ((-(1 : ℝ) : ℝ) : EReal) + ((1 : ℝ) : EReal) = ((0 : ℝ) : EReal) := by
        rw [← EReal.coe_add]
        norm_num
      simp [Scalar.select, classOf]
      simpa using e1

/-- A sum over the mark, on a kept row: the matched box's coordinate. -/
theorem pick_apply (h : Image x0 x1 x2 x3 x4 roi gt lab rp rn) (i : Fin 5000) (r : Fin 4) :
    Scalar.select (kept x0 x1 x3 (ix2 i 0)) (∑ k, Scalar.select (marks x0 x1 (ix2 i k)) (x1 (ix3 0 r k)) 0) 0
      = boxAt roi gt rp i r := by
  rw [kept_apply h, boxAt]
  by_cases hp : isFg roi gt rp i = true
  · rw [sum_marked _ _ _ (marks_apply h i (isFg_fg hp)), truth_first h, hp]
    rfl
  · rw [Bool.not_eq_true] at hp
    rw [hp]
    rfl

/-- The top of the matched box, at a row. -/
theorem y1_apply (h : Image x0 x1 x2 x3 x4 roi gt lab rp rn) (i : Fin 5000) :
    y1 x0 x1 x3 (ix2 i 0) = boxAt roi gt rp i 0 := by
  rw [← pick_apply h]
  pointwise [y1, k0_pay34, k0_pay12, k0_pay4]

/-- The left of the matched box, at a row. -/
theorem x1c_apply (h : Image x0 x1 x2 x3 x4 roi gt lab rp rn) (i : Fin 5000) :
    x1c x0 x1 x3 (ix2 i 0) = boxAt roi gt rp i 1 := by
  rw [← pick_apply h]
  pointwise [x1c, k0_pay35, k0_pay13, k0_pay4]

/-- The bottom of the matched box, at a row. -/
theorem y2_apply (h : Image x0 x1 x2 x3 x4 roi gt lab rp rn) (i : Fin 5000) :
    y2 x0 x1 x3 (ix2 i 0) = boxAt roi gt rp i 2 := by
  rw [← pick_apply h]
  pointwise [y2, k0_pay36, k0_pay14, k0_pay4]

/-- The width of the matched box, at a row. -/
theorem width_apply (h : Image x0 x1 x2 x3 x4 roi gt lab rp rn) (i : Fin 5000) :
    k0_pay39 (marks x0 x1) (kept x0 x1 x3) (x1c x0 x1 x3) (k0_pay37 (k0_pay15 x1)) (k0_pay38 (F := Ideal)) (ix2 i 0)
      = boxAt roi gt rp i 3 - boxAt roi gt rp i 1 := by
  rw [← x1c_apply h, ← pick_apply h i 3]
  pointwise [k0_pay39, k0_pay37, k0_pay38, k0_pay15, k0_pay4]

/-- The target of the vertical centre, at a row. -/
theorem targetY_apply (h : Image x0 x1 x2 x3 x4 roi gt lab rp rn) (i : Fin 5000) :
    targetY x0 x1 x3 (ix2 i 0) = delta (roi i) (boxAt roi gt rp i) 0 := by
  pointwise [targetY, k0_pay45, k0_pay40, k0_pay42, k0_pay31, k0_pay33, k0_pay8, k0_pay10, k0_pay3]
  rw [y1_apply h, y2_apply h, h.box, h.box]
  rfl

/-- The target of the horizontal centre, at a row. -/
theorem targetX_apply (h : Image x0 x1 x2 x3 x4 roi gt lab rp rn) (i : Fin 5000) :
    targetX x0 x1 x3 (ix2 i 0) = delta (roi i) (boxAt roi gt rp i) 1 := by
  pointwise [targetX, k0_pay47, k0_pay46, k0_pay41, k0_pay30, k0_pay32, k0_pay9, k0_pay11, k0_pay3]
  rw [width_apply h, x1c_apply h, h.box, h.box]
  rfl

/-- The target of the height, at a row. -/
theorem targetH_apply (h : Image x0 x1 x2 x3 x4 roi gt lab rp rn) (i : Fin 5000) :
    targetH x0 x1 x3 (ix2 i 0) = delta (roi i) (boxAt roi gt rp i) 2 := by
  pointwise [targetH, k0_pay48, k0_pay44, k0_pay40, k0_pay42, k0_pay31, k0_pay8, k0_pay10, k0_pay3]
  rw [y1_apply h, y2_apply h, h.box, h.box]
  rfl

/-- The target of the width, at a row. -/
theorem targetW_apply (h : Image x0 x1 x2 x3 x4 roi gt lab rp rn) (i : Fin 5000) :
    targetW x0 x1 x3 (ix2 i 0) = delta (roi i) (boxAt roi gt rp i) 3 := by
  pointwise [targetW, k0_pay49, k0_pay43, k0_pay41, k0_pay30, k0_pay9, k0_pay11, k0_pay3]
  rw [width_apply h, h.box, h.box]
  rfl

/-- A class number equals `a` just when the class word does. -/
theorem hot_iff (w : BitVec 32) (a : ℕ) (ha : a < 21) :
    (FloatOps.sitofp (F := Ideal) FTy.f32 (BitVec.ofNat 32 a) = (((w.toInt : ℝ) : EReal) : Ideal .f32))
      ↔ w = BitVec.ofNat 32 a := by
  change ((((BitVec.ofNat 32 a).toInt : ℝ) : EReal) = ((w.toInt : ℝ) : EReal)) ↔ _
  rw [EReal.coe_eq_coe_iff, Int.cast_inj]
  exact ⟨fun h => (BitVec.eq_of_toInt_eq h).symm, fun h => h ▸ rfl⟩

/-- A one-bit test as a number. -/
theorem bit_number (p : Prop) [Decidable p] :
    (FloatOps.sitofp (F := Ideal) FTy.f32 (BitVec.setWidth 32 (BitVec.ofBool (decide p))) : EReal)
      = if p then 1 else 0 := by
  change ((((BitVec.setWidth 32 (BitVec.ofBool (decide p))).toInt : ℝ)) : EReal) = _
  by_cases h : p
  · have : (BitVec.setWidth 32 (BitVec.ofBool (decide p))).toInt = 1 := by rw [decide_eq_true h]; rfl
    rw [this, if_pos h]; norm_num
  · have : (BitVec.setWidth 32 (BitVec.ofBool (decide p))).toInt = 0 := by rw [decide_eq_false h]; rfl
    rw [this, if_neg h]; norm_num

/-- The block of classes holds the one-hot rows. -/
theorem labelBlock_apply (h : Image x0 x1 x2 x3 x4 roi gt lab rp rn) (i : Fin 5000) (a : Fin 21) :
    labelBlock x0 x1 x2 x3 x4 (ix3 0 i a) = hotAt roi gt lab rp rn i a := by
  pointwise [labelBlock, k0_pay2]
  rw [bit_number, classes_apply h, hotAt]
  exact if_congr (hot_iff _ _ a.isLt) rfl rfl

/-- The kernel's class number of a column of the targets' block. -/
theorem div_four (j : Fin 84) :
    Scalar.select
        (IntOp.andi
          (IntOp.cmpi CmpIPredicate.ne
            (IntOp.subi (BitVec.setWidth 32 (IntOp.cmpi CmpIPredicate.sgt (BitVec.ofNat 32 j.val) 0#32))
              (BitVec.setWidth 32 (IntOp.cmpi CmpIPredicate.slt (BitVec.ofNat 32 j.val) 0#32)))
            (Scalar.subi (Scalar.extui (Scalar.cmpi CmpIPredicate.sgt 4#32 0#32))
              (Scalar.extui (Scalar.cmpi CmpIPredicate.slt 4#32 0#32))))
          (IntOp.cmpi CmpIPredicate.ne (IntOp.remsi ArithUnit.vector (BitVec.ofNat 32 j.val) 4#32) 0#32))
        (IntOp.subi (IntOp.divsi ArithUnit.vector (BitVec.ofNat 32 j.val) 4#32) 1#32)
        (IntOp.divsi ArithUnit.vector (BitVec.ofNat 32 j.val) 4#32) = BitVec.ofNat 32 (j.val / 4) := by
  revert j
  decide +kernel

/-- The kernel's target number of a column of the targets' block. -/
theorem mod_four (j : Fin 84) :
    Scalar.select
        (IntOp.andi
          (IntOp.xori
            (IntOp.cmpi CmpIPredicate.slt
              (IntOp.remsi ArithUnit.vector (BitVec.ofNat 32 j.val)
                (Scalar.select (Scalar.cmpi CmpIPredicate.eq 4#32 0#32) 1#32 4#32))
              0#32)
            (Scalar.cmpi CmpIPredicate.slt (Scalar.select (Scalar.cmpi CmpIPredicate.eq 4#32 0#32) 1#32 4#32)
              0#32))
          (IntOp.cmpi CmpIPredicate.ne
            (IntOp.remsi ArithUnit.vector (BitVec.ofNat 32 j.val)
              (Scalar.select (Scalar.cmpi CmpIPredicate.eq 4#32 0#32) 1#32 4#32))
            0#32))
        (IntOp.addi
          (IntOp.remsi ArithUnit.vector (BitVec.ofNat 32 j.val)
            (Scalar.select (Scalar.cmpi CmpIPredicate.eq 4#32 0#32) 1#32 4#32))
          (Scalar.select (Scalar.cmpi CmpIPredicate.eq 4#32 0#32) 1#32 4#32))
        (IntOp.remsi ArithUnit.vector (BitVec.ofNat 32 j.val)
          (Scalar.select (Scalar.cmpi CmpIPredicate.eq 4#32 0#32) 1#32 4#32)) = BitVec.ofNat 32 (j.val % 4) := by
  revert j
  decide +kernel

/-- A sum of four values, all but the chosen one blanked. -/
theorem one_of_four (k : Fin 4) (d : Fin 4 → EReal) :
    Scalar.select (IntOp.cmpi .eq (BitVec.ofNat 32 k.val) 0#32) (d 0) 0
        + Scalar.select (IntOp.cmpi .eq (BitVec.ofNat 32 k.val) 1#32) (d 1) 0
        + Scalar.select (IntOp.cmpi .eq (BitVec.ofNat 32 k.val) 2#32) (d 2) 0
        + Scalar.select (IntOp.cmpi .eq (BitVec.ofNat 32 k.val) 3#32) (d 3) 0 = d k := by
  fin_cases k <;> simp [Scalar.select, IntOp.cmpi]

/-- The block of targets holds, at column `4 a + k`, target `k` of class `a`. -/
theorem deltaBlock_apply (h : Image x0 x1 x2 x3 x4 roi gt lab rp rn) (i : Fin 5000) (j : Fin 84) :
    deltaBlock x0 x1 x2 x3 x4 (ix3 0 i j)
      = deltaAt roi gt lab rp rn i ⟨j.val / 4, by omega⟩ ⟨j.val % 4, by omega⟩ := by
  pointwise [deltaBlock, k0_pay1, k0_pay51, k0_pay50]
  rw [div_four, mod_four, targetY_apply h, targetX_apply h, targetH_apply h, targetW_apply h, bit_number,
    classes_apply h, one_of_four ⟨j.val % 4, by omega⟩ (delta (roi i) (boxAt roi gt rp i)), deltaAt, hotAt]
  exact congrArg (· * _) (if_congr (hot_iff _ _ (by omega)) rfl rfl)

end Cert.KernelIdeal.Block

end
-- ==== Proof.Images.lean ====
module

public import proofs.«01_k».proof.Proof.Spec
public import proofs.«01_k».proof.KernelIdeal

/-! The two results as functions of the three argument arrays, image by image. -/

@[expose] public section

noncomputable section

namespace Cert.Spec

open Idealize.ShloMosaic

/-- The region boxes of an image. -/
def boxes (x : (⟨3, ![16, 5000, 4]⟩ : Shape).Idx → EReal) (b : Fin 16) : Fin 5000 → Fin 4 → EReal := fun i k => x (ix3 b i k)

/-- The ground-truth boxes of an image. -/
def truths (x : (⟨3, ![16, 100, 4]⟩ : Shape).Idx → EReal) (b : Fin 16) : Fin 100 → Fin 4 → EReal := fun k r => x (ix3 b k r)

/-- The labels of an image. -/
def labels (x : (⟨2, ![16, 100]⟩ : Shape).Idx → BitVec 32) (b : Fin 16) : Fin 100 → BitVec 32 := fun k => x (ix2 b k)

/-- The foreground ranks of an image. -/
def fgRanks (b : Fin 16) (i : Fin 5000) : ℕ := (Cert.KernelIdeal.lit0t (5000 * b.val + i.val)).toNat

/-- The background ranks of an image. -/
def bgRanks (b : Fin 16) (i : Fin 5000) : ℕ := (Cert.KernelIdeal.lit1t (5000 * b.val + i.val)).toNat

/-- A word is the word of its number. -/
theorem ofNat_back (w : BitVec 32) : BitVec.ofNat 32 w.toNat = w := by
  rw [BitVec.ofNat_toNat, BitVec.setWidth_eq]

/-- The word of a foreground rank is its table entry. -/
theorem fgRanks_word (b : Fin 16) (i : Fin 5000) :
    BitVec.ofNat 32 (fgRanks b i) = Cert.KernelIdeal.lit0t (5000 * b.val + i.val) := by
  unfold fgRanks
  generalize Cert.KernelIdeal.lit0t (5000 * b.val + i.val) = w
  exact ofNat_back w

/-- The word of a background rank is its table entry. -/
theorem bgRanks_word (b : Fin 16) (i : Fin 5000) :
    BitVec.ofNat 32 (bgRanks b i) = Cert.KernelIdeal.lit1t (5000 * b.val + i.val) := by
  unfold bgRanks
  generalize Cert.KernelIdeal.lit1t (5000 * b.val + i.val) = w
  exact ofNat_back w

/-- The targets of every image, a row of 84 for each region box. -/
def deltas (x : (⟨3, ![16, 5000, 4]⟩ : Shape).Idx → EReal) (y : (⟨3, ![16, 100, 4]⟩ : Shape).Idx → EReal)
    (z : (⟨2, ![16, 100]⟩ : Shape).Idx → BitVec 32) : (⟨3, ![16, 5000, 84]⟩ : Shape).Idx → EReal :=
  fun j => deltaAt (boxes x (j 0)) (truths y (j 0)) (labels z (j 0)) (fgRanks (j 0)) (bgRanks (j 0)) (j 1)
    ⟨(j 2).val / 4, by have h : (j 2).val < 84 := (j 2).isLt; omega⟩ ⟨(j 2).val % 4, by omega⟩

/-- The classes of every image, a one-hot row of 21 for each region box. -/
def hots (x : (⟨3, ![16, 5000, 4]⟩ : Shape).Idx → EReal) (y : (⟨3, ![16, 100, 4]⟩ : Shape).Idx → EReal)
    (z : (⟨2, ![16, 100]⟩ : Shape).Idx → BitVec 32) : (⟨3, ![16, 5000, 21]⟩ : Shape).Idx → EReal :=
  fun j => hotAt (boxes x (j 0)) (truths y (j 0)) (labels z (j 0)) (fgRanks (j 0)) (bgRanks (j 0)) (j 1) (j 2)

end Cert.Spec

end
-- ==== Proof.KernelHost.lean ====
module

public import proofs.«01_k».proof.Proof.Gen.KernelIdeal.Value
public import proofs.«01_k».proof.Proof.KernelValue
public import proofs.«01_k».proof.Proof.Images
public import Idealize.ShloMosaic.Lib.Pipeline.ValueKit
public import Idealize.ShloMosaic.Lib.Claim
public import Idealize.ShloMosaic.Lib.KernelVsHost

/-! What the launch hands the kernel, and the two arrays it leaves. -/

set_option maxRecDepth 16384

@[expose] public section

noncomputable section

namespace Cert.KernelIdeal.Block

open Idealize.ShloMosaic Idealize.ShloMosaic.TcCoe Idealize.ShloMosaic.Tactic Cert.KernelIdeal.Gen
open Cert.Spec

variable (m : (ℓ : Loc nD τ sig) → Buf (Elt Ideal) ℓ)

/-- The foreground ranks as launched: the table as a column. -/
theorem V_fgTable (c : Dev nD) : V m c main_v0
    = broadcastInDim S16x5000x1 ![0, 1] bcast_S16x5000_S16x5000x1_0_1 (fun i => lit0 (S16x5000.rowMajor i)) := by
  unfold_abbrev_sides
  simp only [hostOps0, hostOps0_1, hostOps0_2, hostOps0_3, List.flatten_cons, List.flatten_nil, List.cons_append,
    List.nil_append]
  after_results_simp
  rfl

/-- The background ranks as launched: the table as a column. -/
theorem V_bgTable (c : Dev nD) : V m c main_v1
    = broadcastInDim S16x5000x1 ![0, 1] bcast_S16x5000_S16x5000x1_0_1 (fun i => lit1 (S16x5000.rowMajor i)) := by
  unfold_abbrev_sides
  simp only [hostOps0, hostOps0_1, hostOps0_2, hostOps0_3, List.flatten_cons, List.flatten_nil, List.cons_append,
    List.nil_append]
  after_results_simp
  rfl

/-- The ground-truth boxes as launched: turned, then padded with zeros. -/
theorem V_boxes (c : Dev nD) : V m c main_v3
    = pad S16x4x128 ![0, 0, 0] ![0, 0, 28] ![0, 0, 0]
        (transpose S16x4x100 [0, 2, 1] (m ((c : Thread nD τ).loc main_arg1) : Vec Ideal S16x100x4 .f32) transposes_S16x100x4_S16x4x100_0_2_1)
        (sitofp (F := Ideal) .f32 (constantI S_ 32 0#32)) pads_S16x4x100_S16x4x128_000_000_0280 h_S_ := by
  unfold_abbrev_sides
  simp only [hostOps0, hostOps0_1, hostOps0_2, hostOps0_3, List.flatten_cons, List.flatten_nil, List.cons_append,
    List.nil_append]
  after_results_simp
  rfl

/-- The labels as launched: numbers, padded with zeros. -/
theorem V_labels (c : Dev nD) : V m c main_v6
    = pad S16x1x128 ![0, 0, 0] ![0, 0, 28] ![0, 0, 0]
        (broadcastInDim S16x1x100 ![0, 2] bcast_S16x100_S16x1x100_0_2 (sitofp (F := Ideal) .f32 (m ((c : Thread nD τ).loc main_arg2) : Vec Ideal S16x100 .i32)))
        (sitofp (F := Ideal) .f32 (constantI S_ 32 0#32)) pads_S16x1x100_S16x1x128_000_000_0280 h_S_ := by
  unfold_abbrev_sides
  simp only [hostOps0, hostOps0_1, hostOps0_2, hostOps0_3, List.flatten_cons, List.flatten_nil, List.cons_append,
    List.nil_append]
  after_results_simp
  rfl

/-- The image a grid point works on. -/
abbrev img (t : Fin cfg0.N) : Fin 16 := ⟨t.val, by have h := t.isLt; have e : cfg0.N = 16 := N_0; omega⟩

/-- The block index of window 0 at a point. -/
theorem index0 : ∀ t : Fin cfg0.N, win0_0.index t = ![t.val, 0, 0] := (by decide +kernel : ∀ t : Fin grid0.N, _)
/-- The block index of window 1 at a point. -/
theorem index1 : ∀ t : Fin cfg0.N, win0_1.index t = ![t.val, 0, 0] := (by decide +kernel : ∀ t : Fin grid0.N, _)
/-- The block index of window 2 at a point. -/
theorem index2 : ∀ t : Fin cfg0.N, win0_2.index t = ![t.val, 0, 0] := (by decide +kernel : ∀ t : Fin grid0.N, _)
/-- The block index of window 3 at a point. -/
theorem index3 : ∀ t : Fin cfg0.N, win0_3.index t = ![t.val, 0, 0] := (by decide +kernel : ∀ t : Fin grid0.N, _)
/-- The block index of window 4 at a point. -/
theorem index4 : ∀ t : Fin cfg0.N, win0_4.index t = ![t.val, 0, 0] := (by decide +kernel : ∀ t : Fin grid0.N, _)
/-- The block index of window 5 at a point. -/
theorem index5 : ∀ t : Fin cfg0.N, win0_5.index t = ![t.val, 0, 0] := (by decide +kernel : ∀ t : Fin grid0.N, _)
/-- The block index of window 6 at a point. -/
theorem index6 : ∀ t : Fin cfg0.N, win0_6.index t = ![t.val, 0, 0] := (by decide +kernel : ∀ t : Fin grid0.N, _)

/-- A region box, read from the point's block. -/
theorem block_box (c : Dev nD) (t : Fin cfg0.N) (i : Fin 5000) (k : Fin 4) :
    (iblk m c 0 t : Vec Ideal S1x5000x4 .f32) (ix3 0 i k)
      = (m ((c : Thread nD τ).loc main_arg0) : Vec Ideal S16x5000x4 .f32) (ix3 (img t) i k) := by
  have e : (win0_0.blk t).view.emb (ix3 (0 : Fin 1) i k : S1x5000x4.Idx) = (ix3 (img t) i k : S16x5000x4.Idx) := by
    blk_ext [index0]
  blk_simp [iblk]
  rw [e]
  exact congrFun (V_main_arg0 m c) _

/-- The place of an entry of a table with 16 rows of 5000. -/
theorem rowMajor_table (b : Fin 16) (i : Fin 5000) : (S16x5000.rowMajor (ix2 b i)).val = 5000 * b.val + i.val := by
  rw [Shape.rowMajor_val_two]
  show b.val * 5000 + i.val = _
  omega

/-- A foreground rank word, by image and box. -/
theorem fgTable_at (b : Fin 16) (i : Fin 5000) :
    lit0 (S16x5000.rowMajor (ix2 b i)) = lit0t (5000 * b.val + i.val) := by
  rw [← rowMajor_table]

/-- A background rank word, by image and box. -/
theorem bgTable_at (b : Fin 16) (i : Fin 5000) :
    lit1 (S16x5000.rowMajor (ix2 b i)) = lit1t (5000 * b.val + i.val) := by
  rw [← rowMajor_table]

/-- A foreground rank, read from the point's block. -/
theorem block_fg (c : Dev nD) (t : Fin cfg0.N) (i : Fin 5000) :
    (iblk m c 3 t : Vec Ideal S1x5000x1 .i32) (ix3 0 i 0) = lit0t (5000 * (img t).val + i.val) := by
  have e : (win0_3.blk t).view.emb (ix3 (0 : Fin 1) i (0 : Fin 1) : S1x5000x1.Idx)
      = (ix3 (img t) i (0 : Fin 1) : S16x5000x1.Idx) := by
    blk_ext [index3]
  blk_simp [iblk]
  rw [e]
  refine (congrFun (V_fgTable m c) _).trans ?_
  pointwise []
  exact fgTable_at (img t) i

/-- A background rank, read from the point's block. -/
theorem block_bg (c : Dev nD) (t : Fin cfg0.N) (i : Fin 5000) :
    (iblk m c 4 t : Vec Ideal S1x5000x1 .i32) (ix3 0 i 0) = lit1t (5000 * (img t).val + i.val) := by
  have e : (win0_4.blk t).view.emb (ix3 (0 : Fin 1) i (0 : Fin 1) : S1x5000x1.Idx)
      = (ix3 (img t) i (0 : Fin 1) : S16x5000x1.Idx) := by
    blk_ext [index4]
  blk_simp [iblk]
  rw [e]
  refine (congrFun (V_bgTable m c) _).trans ?_
  pointwise []
  exact bgTable_at (img t) i

/-- A coordinate of a ground-truth box, read from the point's block. -/
theorem block_truth (c : Dev nD) (t : Fin cfg0.N) (r : Fin 4) (k : Fin 128) (h : k.val < 100) :
    (iblk m c 1 t : Vec Ideal S1x4x128 .f32) (ix3 0 r k)
      = (m ((c : Thread nD τ).loc main_arg1) : Vec Ideal S16x100x4 .f32) (ix3 (img t) ⟨k.val, h⟩ r) := by
  have e : (win0_1.blk t).view.emb (ix3 (0 : Fin 1) r k : S1x4x128.Idx) = (ix3 (img t) r k : S16x4x128.Idx) := by
    blk_ext [index1]
  blk_simp [iblk]
  rw [e]
  refine (congrFun (V_boxes m c) _).trans ?_
  rw [pad_apply_of_inside _ _ _ _ _ _ _ _ (ix3 (img t) r (⟨k.val, h⟩ : Fin 100)) (by
    intro a; fin_cases a <;> simp [ix3])]
  pointwise []
  rfl

/-- A label's number, read from the point's block. -/
theorem block_label (c : Dev nD) (t : Fin cfg0.N) (k : Fin 128) (h : k.val < 100) :
    (iblk m c 2 t : Vec Ideal S1x1x128 .f32) (ix3 0 0 k)
      = ((((m ((c : Thread nD τ).loc main_arg2) : Vec Ideal S16x100 .i32) (ix2 (img t) ⟨k.val, h⟩)).toInt : ℝ) : EReal) := by
  have e : (win0_2.blk t).view.emb (ix3 (0 : Fin 1) (0 : Fin 1) k : S1x1x128.Idx)
      = (ix3 (img t) (0 : Fin 1) k : S16x1x128.Idx) := by
    blk_ext [index2]
  blk_simp [iblk]
  rw [e]
  refine (congrFun (V_labels m c) _).trans ?_
  rw [pad_apply_of_inside _ _ _ _ _ _ _ _ (ix3 (img t) (0 : Fin 1) (⟨k.val, h⟩ : Fin 100)) (by
    intro a; fin_cases a <;> simp [ix3])]
  pointwise []
  rfl

/-- The five blocks of a grid point hold its image. -/
theorem image (hp : ∀ b i, fgRanks b i < 5000) (hn : ∀ b i, bgRanks b i < 5000) (c : Dev nD) (t : Fin cfg0.N) :
    Image (iblk m c 0 t) (iblk m c 1 t) (iblk m c 2 t) (iblk m c 3 t) (iblk m c 4 t)
      (boxes (m ((c : Thread nD τ).loc main_arg0)) (img t)) (truths (m ((c : Thread nD τ).loc main_arg1)) (img t))
      (labels (m ((c : Thread nD τ).loc main_arg2)) (img t)) (fgRanks (img t)) (bgRanks (img t)) where
  box := block_box m c t
  truth := block_truth m c t
  label := block_label m c t
  fgOrder i := (block_fg m c t i).trans (fgRanks_word (img t) i).symm
  bgOrder i := (block_bg m c t i).trans (bgRanks_word (img t) i).symm
  fgPlace := hp _
  bgPlace := hn _

/-- The targets after a point are the first part of what the point stores. -/
theorem after5 (c : Dev nD) (t : Fin cfg0.N) : (dats m 0 c).after 5 t = (outsAt0 m c t).1 := by
  rw [after0_5]

/-- The classes after a point are the second part of what the point stores. -/
theorem after6 (c : Dev nD) (t : Fin cfg0.N) : (dats m 0 c).after 6 t = (outsAt0 m c t).2 := by
  rw [after0_6]

/-- What a grid point leaves for the targets. -/
theorem outs5 (c : Dev nD) (t : Fin cfg0.N) : (outsAt0 m c t).1
    = deltaBlock (iblk m c 0 t) (iblk m c 1 t) (iblk m c 2 t) (iblk m c 3 t) (iblk m c 4 t) := by
  dsimp only [outsAt0]
  rw [out5_eq]

/-- What a grid point leaves for the classes. -/
theorem outs6 (c : Dev nD) (t : Fin cfg0.N) : (outsAt0 m c t).2
    = labelBlock (iblk m c 0 t) (iblk m c 1 t) (iblk m c 2 t) (iblk m c 3 t) (iblk m c 4 t) := by
  dsimp only [outsAt0]
  rw [out6_eq]

/-- The array of targets after the run. -/
theorem final5 (hp : ∀ b i, fgRanks b i < 5000) (hn : ∀ b i, bgRanks b i < 5000) (c : Dev nD) :
    (dats m 0 c).arrAt 5 cfg0.N = deltas (m ((c : Thread nD τ).loc main_arg0)) (m ((c : Thread nD τ).loc main_arg1))
      (m ((c : Thread nD τ).loc main_arg2)) := by
  refine (dats m 0 c).arrAt_eq_of_covers 5 _ (by decide +kernel) fun t hf y => ?_
  blk_simp
  rw [after5, outs5]
  obtain ⟨a, i, j, rfl⟩ : ∃ (a : Fin 1) (i : Fin 5000) (j : Fin 84), y = ix3 a i j := ⟨y 0, y 1, y 2, (ix3_eta y).symm⟩
  obtain rfl : a = 0 := Subsingleton.elim _ _
  have e : (win0_5.blk t).view.emb (ix3 (0 : Fin 1) i j : S1x5000x84.Idx) = (ix3 (img t) i j : S16x5000x84.Idx) := by
    blk_ext [index5]
  rw [e]
  exact deltaBlock_apply (image m hp hn c t) i j

/-- The array of classes after the run. -/
theorem final6 (hp : ∀ b i, fgRanks b i < 5000) (hn : ∀ b i, bgRanks b i < 5000) (c : Dev nD) :
    (dats m 0 c).arrAt 6 cfg0.N = hots (m ((c : Thread nD τ).loc main_arg0)) (m ((c : Thread nD τ).loc main_arg1))
      (m ((c : Thread nD τ).loc main_arg2)) := by
  refine (dats m 0 c).arrAt_eq_of_covers 6 _ (by decide +kernel) fun t hf y => ?_
  blk_simp
  rw [after6, outs6]
  obtain ⟨a, i, j, rfl⟩ : ∃ (a : Fin 1) (i : Fin 5000) (j : Fin 21), y = ix3 a i j := ⟨y 0, y 1, y 2, (ix3_eta y).symm⟩
  obtain rfl : a = 0 := Subsingleton.elim _ _
  have e : (win0_6.blk t).view.emb (ix3 (0 : Fin 1) i j : S1x5000x21.Idx) = (ix3 (img t) i j : S16x5000x21.Idx) := by
    blk_ext [index6]
  rw [e]
  exact labelBlock_apply (image m hp hn c t) i j

end Cert.KernelIdeal.Block

end
-- ==== Proof.Sorts.lean ====
module

public import Idealize.ShloMosaic.Lib.Pointwise

/-! Sorting rows that carry their positions, entry by entry. -/

@[expose] public section

noncomputable section

namespace Cert.Sorts

open Idealize.ShloMosaic

/-- An index of a row with its last coordinate replaced. -/
theorem along_row {a n : ℕ} (b : Fin a) (i k : Fin n) :
    (ix2 b i : (⟨2, ![a, n]⟩ : Shape).Idx).along (1 : Fin 2) k = ix2 b k := by
  funext d
  unfold Shape.Idx.along
  match d with
  | ⟨0, _⟩ => rfl
  | ⟨1, _⟩ => rfl

/-- An index of rank three with its last coordinate replaced. -/
theorem along_last {a n l : ℕ} (b : Fin a) (i : Fin n) (k k' : Fin l) :
    (ix3 b i k : (⟨3, ![a, n, l]⟩ : Shape).Idx).along (2 : Fin 3) k' = ix3 b i k' := by
  funext d
  unfold Shape.Idx.along
  match d with
  | ⟨0, _⟩ => rfl
  | ⟨1, _⟩ => rfl
  | ⟨2, _⟩ => rfl

/-- Sorting along equal families of indices picks equal entries. -/
theorem pick_congr {ι α β : Type} {n : ℕ} (cmp : α × β → α × β → BitVec 1) (x : ι → α) (y : ι → β) (f g : Fin n → ι)
    (h : f = g) (i : Fin n) :
    y (f (sortedFrom (fun k k' => cmp (x (f k), y (f k)) (x (f k'), y (f k')) == 1#1) i))
      = y (g (sortedFrom (fun k k' => cmp (x (g k), y (g k)) (x (g k'), y (g k')) == 1#1) i)) := by
  rw [h]

/-- A row sorted by its first components, its second components read at an entry. -/
theorem sort2_row {a n : ℕ} {α β : Type} (cmp : α × β → α × β → BitVec 1) (x : (⟨2, ![a, n]⟩ : Shape).Idx → α)
    (y : (⟨2, ![a, n]⟩ : Shape).Idx → β) (b : Fin a) (i : Fin n) :
    (Host.sort2 ⟨2, ![a, n]⟩ 1 cmp x y).2 (ix2 b i)
      = y (ix2 b (sortedFrom (fun k k' => cmp (x (ix2 b k), y (ix2 b k)) (x (ix2 b k'), y (ix2 b k')) == 1#1) i)) := by
  unfold Host.sort2
  rw [dif_pos (show 1 < 2 by decide)]
  exact pick_congr cmp x y ((ix2 b i : (⟨2, ![a, n]⟩ : Shape).Idx).along (1 : Fin 2)) (ix2 b) (funext (along_row b i)) i

/-- A last axis sorted by its first components, its second components read at an entry. -/
theorem sort2_last {a n l : ℕ} {α β : Type} (cmp : α × β → α × β → BitVec 1) (x : (⟨3, ![a, n, l]⟩ : Shape).Idx → α)
    (y : (⟨3, ![a, n, l]⟩ : Shape).Idx → β) (b : Fin a) (i : Fin n) (k : Fin l) :
    (Host.sort2 ⟨3, ![a, n, l]⟩ 2 cmp x y).2 (ix3 b i k)
      = y (ix3 b i (sortedFrom (fun k k' => cmp (x (ix3 b i k), y (ix3 b i k)) (x (ix3 b i k'), y (ix3 b i k')) == 1#1)
          k)) := by
  unfold Host.sort2
  rw [dif_pos (show 2 < 3 by decide)]
  exact pick_congr cmp x y ((ix3 b i k : (⟨3, ![a, n, l]⟩ : Shape).Idx).along (2 : Fin 3)) (ix3 b i)
    (funext (along_last b i k)) k

/-- The place of the greatest of a row's last axis, the first of equals. -/
theorem topK_place {a n l : ℕ} {α : Type} (gt : α → α → BitVec 1) (x : (⟨3, ![a, n, l]⟩ : Shape).Idx → α) (h0 : 0 < l)
    (h : (⟨3, ![a, n, l]⟩ : Shape).Slices (fun _ => 0) ⟨3, ![a, n, 1]⟩) (b : Fin a) (i : Fin n) :
    (Host.topK ⟨3, ![a, n, 1]⟩ 2 gt x h).2 (ix3 b i 0)
      = BitVec.ofNat 32 (sortedFrom (fun k k' => gt (x (ix3 b i k)) (x (ix3 b i k')) == 1#1) ⟨0, h0⟩).val := by
  unfold Host.topK
  pointwise []
  rw [Shape.Idx.norm3]
  exact sort2_last (fun l r => gt l.1 r.1) x (fun j => BitVec.ofNat 32 (j 2).val) b i ⟨0, h0⟩

end Cert.Sorts

end
-- ==== Proof.RefScores.lean ====
module

public import proofs.«01_k».proof.Proof.Gen.ReferenceIdeal.Run
public import proofs.«01_k».proof.Proof.Images
public import proofs.«01_k».proof.Proof.Sorts
public import Idealize.ShloMosaic.Lib.Tactic.CleanTypes

/-! The reference, row by row: overlaps, the largest of them and its place, the two sets of candidates. -/

set_option maxRecDepth 16384

@[expose] public section

noncomputable section

namespace Cert.ReferenceIdeal.Rows

open Idealize.ShloMosaic Idealize.ShloMosaic.TcCoe Idealize.ShloMosaic.Tactic
open Cert.ReferenceIdeal Cert.ReferenceIdeal.Gen Cert.ReferenceIdeal.Value Cert.Spec

variable (V0 : Valuation τ sig (Elt Ideal))

/-- The region boxes among the arguments. -/
abbrev argBoxes (b : Fin 16) := boxes (V0 (Proc.devRef .tc main_arg0) : Vec Ideal S16x5000x4 .f32) b

/-- The ground-truth boxes among the arguments. -/
abbrev argTruths (b : Fin 16) := truths (V0 (Proc.devRef .tc main_arg1) : Vec Ideal S16x100x4 .f32) b

/-- The labels among the arguments. -/
abbrev argLabels (b : Fin 16) := labels (V0 (Proc.devRef .tc main_arg2) : Vec Ideal S16x100 .i32) b

/-- An image's row of overlaps. -/
abbrev argRow (b : Fin 16) (i : Fin 5000) := row (argBoxes V0 b) (argTruths V0 b) i

/-- The overlap areas. -/
theorem v38_apply (b : Fin 16) (i : Fin 5000) (k : Fin 100) :
    (res_main_v38 V0 : Vec Ideal S16x5000x100 .f32) (ix3 b i k) = inter (argBoxes V0 b i) (argTruths V0 b k) := by
  unfold res_main_v38 res_main_v0 res_main_v1 res_main_v2 res_main_v3 res_main_v8 res_main_v9 res_main_v10 res_main_v11
  clean_types
  pointwise []
  rfl

/-- The overlaps. -/
theorem v45_apply (b : Fin 16) (i : Fin 5000) (k : Fin 100) :
    (res_main_v45 V0 : Vec Ideal S16x5000x100 .f32) (ix3 b i k) = argRow V0 b i k := by
  unfold res_main_v45 res_main_v0 res_main_v1 res_main_v2 res_main_v3 res_main_v8 res_main_v9 res_main_v10 res_main_v11
  clean_types
  pointwise []
  rw [v38_apply]
  rfl

/-- The largest overlap of a row. -/
theorem v47_apply (b : Fin 16) (i : Fin 5000) :
    (res_main_v47 V0 : Vec Ideal S16x5000 .f32) (ix2 b i) = best (argRow V0 b i) := by
  unfold res_main_v47
  clean_types
  pointwise []
  rw [Finset.fold_congr (g := argRow V0 b i) fun x _ => v45_apply V0 b i x]
  generalize argRow V0 b i = f
  rfl

/-- A number of the array above a constant. -/
theorem over (x : Vec Ideal S16x5000 .f32) (w : BitVec 32) (j : S16x5000.Idx) :
    (cmpf .ogt x (broadcastInDim S16x5000 ![] bcast_S_S16x5000 (constant (F := Ideal) S_ .f32 w)) : Vec Ideal S16x5000 .i1)
      j = BitVec.ofBool (decide (Ideal.ofBits .f32 w < x j)) := rfl

/-- A number of the array below a constant. -/
theorem under (x : Vec Ideal S16x5000 .f32) (w : BitVec 32) (j : S16x5000.Idx) :
    (cmpf .olt x (broadcastInDim S16x5000 ![] bcast_S_S16x5000 (constant (F := Ideal) S_ .f32 w)) : Vec Ideal S16x5000 .i1)
      j = BitVec.ofBool (decide (x j < Ideal.ofBits .f32 w)) := rfl

/-- Both of two bits. -/
theorem both (p q : Bool) : IntOp.andi (BitVec.ofBool p) (BitVec.ofBool q) = BitVec.ofBool (p && q) := by
  cases p <;> cases q <;> rfl

/-- The foreground candidates. -/
theorem v49_apply (b : Fin 16) (i : Fin 5000) :
    (res_main_v49 V0 : Vec Ideal S16x5000 .i1) (ix2 b i) = BitVec.ofBool (fg (best (argRow V0 b i))) := by
  have e := v47_apply V0 b i
  unfold res_main_v49
  generalize res_main_v47 V0 = x at e ⊢
  rw [← e]
  exact over x _ _

/-- The background candidates. -/
theorem v62_apply (b : Fin 16) (i : Fin 5000) :
    (res_main_v62 V0 : Vec Ideal S16x5000 .i1) (ix2 b i) = BitVec.ofBool (bg (best (argRow V0 b i))) := by
  have e := v47_apply V0 b i
  unfold res_main_v62
  generalize res_main_v47 V0 = x at e ⊢
  rw [← e, bg, ← both]
  exact congrArg₂ IntOp.andi (under x _ _) (over x _ _)

end Cert.ReferenceIdeal.Rows

end
-- ==== Proof.RefFirst.lean ====
module

public import proofs.«01_k».proof.Proof.Gen.ReferenceIdeal.Run
public import proofs.«01_k».proof.Proof.Images
public import proofs.«01_k».proof.Proof.RefScores
public import proofs.«01_k».proof.Proof.Sorts
public import Idealize.ShloMosaic.Lib.Tactic.CleanTypes

/-! The reference, row by row: overlaps, the largest of them and its place, the two sets of candidates. -/

set_option maxRecDepth 16384

@[expose] public section

noncomputable section

namespace Cert.ReferenceIdeal.Rows

open Idealize.ShloMosaic Idealize.ShloMosaic.TcCoe Idealize.ShloMosaic.Tactic
open Cert.ReferenceIdeal Cert.ReferenceIdeal.Gen Cert.ReferenceIdeal.Value Cert.Spec

variable (V0 : Valuation τ sig (Elt Ideal))

/-- The comparison the reference takes the largest by. -/
theorem gt_eq (x y : EReal) : (FloatOps.cmpfTotal (F := Ideal) (φ := .f32) .gt x y == 1#1) = decide (y < x) := by
  show (BitVec.ofBool (decide (y < x)) == 1#1) = _
  generalize decide (y < x) = p
  cases p <;> rfl

/-- The place of the greatest of a row of 100. -/
theorem top_place (x : Vec Ideal S16x5000x100 .f32) (b : Fin 16) (i : Fin 5000) (f : Fin 100 → EReal)
    (e : ∀ k, x (ix3 b i k) = f k) :
    (Host.topK S16x5000x1 2 (FloatOps.cmpfTotal (F := Ideal) (φ := .f32) .gt) x sliceFits_S16x5000x100_S16x5000x1).2
      (ix3 b i 0) = BitVec.ofNat 32 (first f).val := by
  have h := Sorts.topK_place (FloatOps.cmpfTotal (F := Ideal) (φ := .f32) .gt) x (by decide)
    sliceFits_S16x5000x100_S16x5000x1 b i
  simp only [e, gt_eq] at h
  exact h

/-- A column read as a row. -/
theorem squeeze (y : Vec Ideal S16x5000x1 .i32) (b : Fin 16) (i : Fin 5000) :
    (shapeCast S16x5000 y shapeCasts_S16x5000x1_S16x5000 : Vec Ideal S16x5000 .i32) (ix2 b i) = y (ix3 b i 0) := by
  pointwise []

/-- The place of the first largest overlap. -/
theorem v46_apply (b : Fin 16) (i : Fin 5000) :
    (res_main_v46 V0 : Vec Ideal S16x5000 .i32) (ix2 b i) = BitVec.ofNat 32 (first (argRow V0 b i)).val := by
  have e := v45_apply V0 b i
  unfold res_main_v46
  generalize res_main_v45 V0 = x at e ⊢
  generalize argRow V0 b i = f at e ⊢
  exact (squeeze _ b i).trans (top_place x b i f e)

end Cert.ReferenceIdeal.Rows

end
-- ==== Proof.Ranks.lean ====
module

public import Idealize.ShloMosaic.Lib.Pointwise
public import Mathlib.Tactic.Ring
public import Mathlib.Tactic.Linarith

/-!
A check that one row of a rank table orders one row of draws: the larger draw comes first, and among equal draws the
earlier entry. The row's ranks and draws are read once into a number, 64 bits an entry; the check then works on that
number alone.
-/

set_option maxRecDepth 16384

@[expose] public section

namespace Cert.Ranks

/-- The first `n` values of `f` as the digits in base `w` of a number, above them the digits of `acc`. -/
def pack (w : ℕ) (f : ℕ → ℕ) : ℕ → ℕ → ℕ
  | 0, acc => acc
  | n + 1, acc =>
    match acc * w + f n with
    | 0 => pack w f n 0
    | a + 1 => pack w f n (Nat.succ a)

/-- Digit `i` of `p` in base `w`. -/
def digit (w p i : ℕ) : ℕ := p / w ^ i % w

/-- The base a row is packed in: 64 bits an entry. -/
def wide : ℕ := 18446744073709551616

/-- The base the keys are packed in: 24 bits a key. -/
def narrow : ℕ := 16777216

/-- The base that parts an entry's rank from its draw. -/
def half : ℕ := 4294967296

/-- Whether `q` holds below `n`. -/
def allBelow (q : ℕ → Bool) : ℕ → Bool
  | 0 => true
  | n + 1 => q n && allBelow q n

/-- What an entry is ordered by: its draw from the largest down, then its place. -/
def key (r i : ℕ) : ℕ := (1280 - r) * 8192 + i

/-- The keys of the first `n` entries of the packed row `p`, each added to `acc` at the digit of its rank. -/
def ordered (p : ℕ) : ℕ → ℕ → ℕ
  | 0, acc => acc
  | n + 1, acc =>
    match acc + key (digit wide p n % half) n * narrow ^ (digit wide p n / half) with
    | 0 => ordered p n 0
    | a + 1 => ordered p n (Nat.succ a)

/-- The keys in `s` increase, and each entry of the packed row `p` finds its key in `s` at its rank. -/
def sound (n p s : ℕ) : Bool :=
  allBelow (fun k => Nat.blt (digit narrow s k) (digit narrow s (k + 1))) (n - 1) &&
    allBelow (fun i => Nat.blt (digit wide p i / half) n && Nat.ble 1 (digit wide p i % half) &&
      Nat.blt (digit wide p i % half) 1280 &&
      Nat.beq (digit narrow s (digit wide p i / half)) (key (digit wide p i % half) i)) n

/-- `sound`, of the number packed and the keys put in order, each computed before it is used. -/
def check (f : ℕ → ℕ) (n : ℕ) : Bool :=
  match pack wide f n 0 with
  | 0 => false
  | p + 1 =>
    match ordered (Nat.succ p) n 0 with
    | 0 => false
    | s + 1 => sound n (Nat.succ p) (Nat.succ s)

/-- One entry of a row starting at `base`: its rank and its draw in one number. -/
def entry (rank draw : ℕ → BitVec 32) (base i : ℕ) : ℕ :=
  (rank (base + i)).toNat * half + (draw (base + i)).toNat

/-- Packing one more digit. -/
theorem pack_succ (w : ℕ) (f : ℕ → ℕ) (n acc : ℕ) : pack w f (n + 1) acc = pack w f n (acc * w + f n) := by
  rw [pack]
  generalize acc * w + f n = v
  cases v <;> rfl

/-- The digits of a packed row are its values, and above them stand those it was packed onto. -/
theorem pack_spec (w : ℕ) (f : ℕ → ℕ) (hf : ∀ i, f i < w) (n : ℕ) : ∀ acc,
    pack w f n acc / w ^ n = acc ∧ ∀ i, i < n → digit w (pack w f n acc) i = f i := by
  have hw : 0 < w := (Nat.zero_le _).trans_lt (hf 0)
  induction n with
  | zero => intro acc; exact ⟨by rw [pack, pow_zero, Nat.div_one], fun i hi => absurd hi (Nat.not_lt_zero i)⟩
  | succ n ih =>
    intro acc
    rw [pack_succ]
    obtain ⟨htop, hlow⟩ := ih (acc * w + f n)
    refine ⟨?_, fun i hi => ?_⟩
    · rw [pow_succ, ← Nat.div_div_eq_div_mul, htop, Nat.add_comm, Nat.add_mul_div_right _ _ hw,
        Nat.div_eq_of_lt (hf n), Nat.zero_add]
    · rcases Nat.lt_succ_iff_lt_or_eq.mp hi with h | h
      · exact hlow i h
      · subst h
        rw [digit, htop, Nat.add_comm, Nat.add_mul_mod_self_right, Nat.mod_eq_of_lt (hf i)]

/-- What holds below a bound by the test holds at each number below it. -/
theorem allBelow_spec (q : ℕ → Bool) (n : ℕ) (h : allBelow q n = true) : ∀ i, i < n → q i = true := by
  induction n with
  | zero => intro i hi; omega
  | succ n ih =>
    rw [allBelow, Bool.and_eq_true] at h
    intro i hi
    rcases Nat.lt_succ_iff_lt_or_eq.mp hi with h' | h'
    · exact ih h.2 i h'
    · subst h'; exact h.1

/-- A sequence increasing step by step up to place `n` is increasing there. -/
theorem increasing (g : ℕ → ℕ) (n : ℕ) (h : ∀ k, k < n → g k < g (k + 1)) :
    ∀ a b, a < b → b ≤ n → g a < g b := by
  intro a b hab
  induction b with
  | zero => omega
  | succ b ih =>
    intro hb
    rcases Nat.lt_succ_iff_lt_or_eq.mp hab with h' | h'
    · exact (ih h' (by omega)).trans (h b (by omega))
    · subst h'; exact h a (by omega)

/-- What a sound row of `n` entries says: ranks are places, draws lie from 1 up to 1279, and of two entries the one
    ranked first is the one drawn larger, or drawn equal and earlier. -/
structure Ordered (n : ℕ) (rank draw : ℕ → ℕ) : Prop where
  place : ∀ i, i < n → rank i < n
  pos : ∀ i, i < n → 1 ≤ draw i
  top : ∀ i, i < n → draw i < 1280
  first : ∀ i j, i < n → j < n → (rank j < rank i ↔ draw i < draw j ∨ (draw i = draw j ∧ j < i))

/-- A packed row that passes the test is ordered. -/
theorem sound_spec (n p s : ℕ) (hn : n ≤ 8192) (h : sound n p s = true) :
    Ordered n (fun i => digit wide p i / half) (fun i => digit wide p i % half) := by
  rw [sound, Bool.and_eq_true] at h
  obtain ⟨hs, he⟩ := h
  have hinc := increasing (digit narrow s) (n - 1) fun k hk => by
    have := allBelow_spec _ _ hs k hk
    simpa only [Nat.blt_eq] using this
  have hi' := fun i hi => allBelow_spec _ _ he i hi
  simp only [Bool.and_eq_true, Nat.blt_eq, Nat.beq_eq, Nat.ble_eq] at hi'
  refine ⟨fun i hi => (hi' i hi).1.1.1, fun i hi => (hi' i hi).1.1.2, fun i hi => (hi' i hi).1.2, fun i j hi hj => ?_⟩
  obtain ⟨⟨⟨a1, a2⟩, a3⟩, a4⟩ := hi' i hi
  obtain ⟨⟨⟨b1, b2⟩, b3⟩, b4⟩ := hi' j hj
  beta_reduce
  generalize digit wide p i / half = ri at *
  generalize digit wide p j / half = rj at *
  generalize digit wide p i % half = di at *
  generalize digit wide p j % half = dj at *
  unfold key at a4 b4
  rcases Nat.lt_trichotomy rj ri with hlt | heq | hgt
  · have := hinc rj ri hlt (by omega); omega
  · subst heq; omega
  · have := hinc ri rj hgt (by omega); omega

/-- A row that passes the check has a packed row that passes the test. -/
theorem check_sound (f : ℕ → ℕ) (n : ℕ) (h : check f n = true) : ∃ s, sound n (pack wide f n 0) s = true := by
  unfold check at h
  generalize pack wide f n 0 = p at h
  cases p with
  | zero => exact absurd h (by simp)
  | succ p =>
    dsimp only at h
    generalize ordered (Nat.succ p) n 0 = s at h
    cases s with
    | zero => exact absurd h (by simp)
    | succ s => exact ⟨_, h⟩

/-- A row of ranks and draws that passes the check is ordered. -/
theorem check_spec (rank draw : ℕ → BitVec 32) (base n : ℕ) (hn : n ≤ 8192)
    (h : check (entry rank draw base) n = true) :
    Ordered n (fun i => (rank (base + i)).toNat) (fun i => (draw (base + i)).toNat) := by
  obtain ⟨s, hs⟩ := check_sound _ n h
  have hdraw : ∀ i, (draw (base + i)).toNat < half := fun i => (draw (base + i)).isLt
  have hwide : wide = half * half := by decide +kernel
  have hf : ∀ i, entry rank draw base i < wide := fun i => by
    have h1 := (rank (base + i)).isLt
    have h2 := (draw (base + i)).isLt
    rw [hwide, entry]
    calc _ < (rank (base + i)).toNat * half + half := Nat.add_lt_add_left h2 _
      _ = ((rank (base + i)).toNat + 1) * half := by ring
      _ ≤ half * half := Nat.mul_le_mul_right _ h1
  obtain ⟨-, hp⟩ := pack_spec wide (entry rank draw base) hf n 0
  have ho := sound_spec n _ s hn hs
  have hr : ∀ i, i < n → digit wide (pack wide (entry rank draw base) n 0) i / half = (rank (base + i)).toNat :=
    fun i hi => by
      rw [hp i hi, entry, Nat.add_comm, Nat.add_mul_div_right _ _ (by decide +kernel),
        Nat.div_eq_of_lt (hdraw i), Nat.zero_add]
  have hd : ∀ i, i < n → digit wide (pack wide (entry rank draw base) n 0) i % half = (draw (base + i)).toNat :=
    fun i hi => by
      rw [hp i hi, entry, Nat.add_comm, Nat.add_mul_mod_self_right, Nat.mod_eq_of_lt (hdraw i)]
  refine ⟨fun i hi => ?_, fun i hi => ?_, fun i hi => ?_, fun i j hi hj => ?_⟩
  · rw [← hr i hi]; exact ho.place i hi
  · rw [← hd i hi]; exact ho.pos i hi
  · rw [← hd i hi]; exact ho.top i hi
  · rw [← hr i hi, ← hr j hj, ← hd i hi, ← hd j hj]; exact ho.first i j hi hj

end Cert.Ranks

end
-- ==== Proof.Positive.lean ====
module

public import proofs.«01_k».proof.KernelIdeal
public import proofs.«01_k».proof.ReferenceIdeal
public import proofs.«01_k».proof.Proof.Ranks
public import Mathlib.Tactic.FinCases

/-! The kernel's table of ranks for the positive picks, against the draws it stands for, image by image. -/

set_option maxRecDepth 16384
set_option maxHeartbeats 0

@[expose] public section

namespace Cert.Ranks

/-- On every image the positive ranks order the positive draws. -/
theorem positive (b : Fin 16) :
    check (entry Cert.KernelIdeal.lit0t Cert.ReferenceIdeal.lit1t (5000 * b.val)) 5000 = true := by
  fin_cases b <;> decide +kernel

end Cert.Ranks

end
-- ==== Proof.Negative.lean ====
module

public import proofs.«01_k».proof.KernelIdeal
public import proofs.«01_k».proof.ReferenceIdeal
public import proofs.«01_k».proof.Proof.Ranks
public import Mathlib.Tactic.FinCases

/-! The kernel's table of ranks for the negative picks, against the draws it stands for, image by image. -/

set_option maxRecDepth 16384
set_option maxHeartbeats 0

@[expose] public section

namespace Cert.Ranks

/-- On every image the negative ranks order the negative draws. -/
theorem negative (b : Fin 16) :
    check (entry Cert.KernelIdeal.lit1t Cert.ReferenceIdeal.lit2t (5000 * b.val)) 5000 = true := by
  fin_cases b <;> decide +kernel

end Cert.Ranks

end
-- ==== Proof.Ordered.lean ====
module

public import proofs.«01_k».proof.Proof.Images
public import proofs.«01_k».proof.Proof.Positive
public import proofs.«01_k».proof.Proof.Negative

/-! The kernel's ranks order the reference's draws. -/

@[expose] public section

noncomputable section

namespace Cert.Spec

/-- The draws for the foreground picks of an image. -/
def fgDraws (b : Fin 16) (i : Fin 5000) : ℕ := (Cert.ReferenceIdeal.lit1t (5000 * b.val + i.val)).toNat

/-- The draws for the background picks of an image. -/
def bgDraws (b : Fin 16) (i : Fin 5000) : ℕ := (Cert.ReferenceIdeal.lit2t (5000 * b.val + i.val)).toNat

/-- The ranks and the draws of an image fit together. -/
theorem fgOrdered (b : Fin 16) :
    Ranks.Ordered 5000 (fun i => (Cert.KernelIdeal.lit0t (5000 * b.val + i)).toNat)
      (fun i => (Cert.ReferenceIdeal.lit1t (5000 * b.val + i)).toNat) :=
  Ranks.check_spec Cert.KernelIdeal.lit0t Cert.ReferenceIdeal.lit1t (5000 * b.val) 5000
  (by norm_num) (Ranks.positive b)

/-- The ranks and the draws of an image fit together. -/
theorem bgOrdered (b : Fin 16) :
    Ranks.Ordered 5000 (fun i => (Cert.KernelIdeal.lit1t (5000 * b.val + i)).toNat)
      (fun i => (Cert.ReferenceIdeal.lit2t (5000 * b.val + i)).toNat) :=
  Ranks.check_spec Cert.KernelIdeal.lit1t Cert.ReferenceIdeal.lit2t (5000 * b.val) 5000
  (by norm_num) (Ranks.negative b)

/-- Foreground ranks are places. -/
theorem fgRanks_lt (b : Fin 16) (i : Fin 5000) : fgRanks b i < 5000 := (fgOrdered b).place i.val i.isLt

/-- Background ranks are places. -/
theorem bgRanks_lt (b : Fin 16) (i : Fin 5000) : bgRanks b i < 5000 := (bgOrdered b).place i.val i.isLt

/-- Foreground draws are positive. -/
theorem fgDraws_pos (b : Fin 16) (i : Fin 5000) : 1 ≤ fgDraws b i := (fgOrdered b).pos i.val i.isLt

/-- Background draws are positive. -/
theorem bgDraws_pos (b : Fin 16) (i : Fin 5000) : 1 ≤ bgDraws b i := (bgOrdered b).pos i.val i.isLt

/-- Foreground draws lie below 1280. -/
theorem fgDraws_lt (b : Fin 16) (i : Fin 5000) : fgDraws b i < 1280 := (fgOrdered b).top i.val i.isLt

/-- Background draws lie below 1280. -/
theorem bgDraws_lt (b : Fin 16) (i : Fin 5000) : bgDraws b i < 1280 := (bgOrdered b).top i.val i.isLt

/-- A lower foreground rank is a larger draw, or the same draw earlier. -/
theorem fgRanks_first (b : Fin 16) (i j : Fin 5000) : fgRanks b j < fgRanks b i ↔
    fgDraws b i < fgDraws b j ∨ (fgDraws b i = fgDraws b j ∧ j < i) :=
  (fgOrdered b).first i.val j.val i.isLt j.isLt

/-- A lower background rank is a larger draw, or the same draw earlier. -/
theorem bgRanks_first (b : Fin 16) (i j : Fin 5000) : bgRanks b j < bgRanks b i ↔
    bgDraws b i < bgDraws b j ∨ (bgDraws b i = bgDraws b j ∧ j < i) :=
  (bgOrdered b).first i.val j.val i.isLt j.isLt

end Cert.Spec

end
-- ==== Proof.RefSelect.lean ====
module

public import proofs.«01_k».proof.Proof.RefScores
public import proofs.«01_k».proof.Proof.Ordered
public import proofs.«01_k».proof.Proof.Order
public import proofs.«01_k».proof.Proof.Halving

/-! The reference's two picks: it sorts the masked draws, sorts the places, and keeps the first 128. -/

set_option maxRecDepth 16384

@[expose] public section

noncomputable section

namespace Cert.ReferenceIdeal.Rows

open Idealize.ShloMosaic Idealize.ShloMosaic.TcCoe Idealize.ShloMosaic.Tactic
open Cert.ReferenceIdeal Cert.ReferenceIdeal.Gen Cert.ReferenceIdeal.Value Cert.Spec

/-- Sorting the places by the sorted places gives each entry's place in the order of its key. -/
theorem ranked {a n : ℕ} (hn : n ≤ 2147483648) (x y : (⟨2, ![a, n]⟩ : Shape).Idx → BitVec 32)
    (hy : ∀ b i, y (ix2 b i) = BitVec.ofNat 32 i.val) (b : Fin a) (i : Fin n) :
    (Host.sort2 ⟨2, ![a, n]⟩ 1 (fun l r => IntOp.cmpi .slt l.1 r.1)
        (Host.sort2 ⟨2, ![a, n]⟩ 1 (fun l r => IntOp.cmpi .slt l.1 r.1) x y).2 y).2 (ix2 b i)
      = BitVec.ofNat 32
          (Order.place (Order.broken fun j k => decide ((x (ix2 b j)).toInt < (x (ix2 b k)).toInt)) i) := by
  rw [Sorts.sort2_row, hy]
  simp only [Sorts.sort2_row, hy]
  exact congrArg _ (Order.argsort_twice hn (fun j => x (ix2 b j)) i)

/-- A draw kept or dropped by a bit, negated. -/
theorem masked_word (p : Bool) (w : BitVec 32) (h : w.toNat < 1280) :
    (-((BitVec.ofBool p).setWidth 32 * w)).toInt = if p = true then -(w.toNat : ℤ) else 0 := by
  cases p
  · simp
  · have e : (BitVec.ofBool true).setWidth 32 = 1#32 := by decide
    have e' : 1#32 * w = w := by simp
    rw [e, e', if_pos rfl, BitVec.toInt_neg, BitVec.toInt_eq_toNat_of_lt (by omega)]
    have : ((-(w.toNat : ℤ)).bmod (2 ^ 32)) = -(w.toNat : ℤ) := by
      rw [Int.bmod_eq_of_le] <;> omega
    exact this

/-- A candidate whose place comes before 128. -/
theorem kept (m : Fin 5000 → Bool) (draw rank : Fin 5000 → ℕ) (x : Fin 5000 → ℤ)
    (hx : ∀ i, x i = if m i = true then -(draw i : ℤ) else 0) (hd : ∀ i, 1 ≤ draw i)
    (hr : ∀ i j, rank j < rank i ↔ draw i < draw j ∨ (draw i = draw j ∧ j < i)) (i : Fin 5000) :
    IntOp.andi (BitVec.ofBool (m i)) (IntOp.cmpi .slt
        (BitVec.ofNat 32 (Order.place (Order.broken fun j k => decide (x j < x k)) i)) 128#32)
      = BitVec.ofBool (picked m rank i) := by
  have hp : Order.place (Order.broken fun j k => decide (x j < x k)) i < 5001 := by
    unfold Order.place
    exact Nat.lt_succ_of_le ((Finset.card_le_univ _).trans (by simp))
  unfold picked
  rw [← both]
  by_cases hm : m i = true
  · rw [← Order.place_masked (fun j => m j = true) draw rank x hx hd hr i hm]
    refine congrArg _ ?_
    show BitVec.ofBool ((BitVec.ofNat 32 _).slt (BitVec.ofNat 32 128)) = _
    rw [Threshold.slt_ofNat (by omega) (by norm_num)]
  · rw [Bool.not_eq_true] at hm
    rw [hm]
    generalize IntOp.cmpi .slt _ _ = q
    generalize decide ((Finset.univ.filter fun j => m j = true ∧ rank j < rank i).card < 128) = r
    have : IntOp.andi (BitVec.ofBool false) q = 0#1 := by
      show BitVec.ofBool false &&& q = _
      simp
    rw [this]
    cases r <;> rfl

/-- The position of an entry among the 16 rows of 5000. -/
theorem position (b : Fin 16) (i : Fin 5000) : (S16x5000.rowMajor (ix2 b i)).val = 5000 * b.val + i.val := by
  rw [Shape.rowMajor_val_two]
  show b.val * 5000 + i.val = _
  omega

/-- A foreground draw, read from its table. -/
theorem fgDraw_at (b : Fin 16) (i : Fin 5000) :
    lit1 (S16x5000.rowMajor (ix2 b i)) = lit1t (5000 * b.val + i.val) := by
  rw [← position]

/-- A background draw, read from its table. -/
theorem bgDraw_at (b : Fin 16) (i : Fin 5000) :
    lit2 (S16x5000.rowMajor (ix2 b i)) = lit2t (5000 * b.val + i.val) := by
  rw [← position]

variable (V0 : Valuation τ sig (Elt Ideal))

/-- The foreground draws of the candidates, negated, zero elsewhere. -/
theorem v52_apply (b : Fin 16) (i : Fin 5000) :
    ((res_main_v52 V0 : Vec Ideal S16x5000 .i32) (ix2 b i)).toInt
      = if fg (best (argRow V0 b i)) = true then -(fgDraws b i : ℤ) else 0 := by
  have e := v49_apply V0 b i
  unfold res_main_v52
  generalize res_main_v49 V0 = x at e ⊢
  have hl := fgDraw_at b i
  have hd := fgDraws_lt b i
  unfold fgDraws at hd ⊢
  generalize lit1t (5000 * b.val + i.val) = w at hl hd ⊢
  rw [← masked_word _ w hd, ← hl, ← e]
  rfl

/-- The background draws of the candidates, negated, zero elsewhere. -/
theorem v65_apply (b : Fin 16) (i : Fin 5000) :
    ((res_main_v65 V0 : Vec Ideal S16x5000 .i32) (ix2 b i)).toInt
      = if bg (best (argRow V0 b i)) = true then -(bgDraws b i : ℤ) else 0 := by
  have e := v62_apply V0 b i
  unfold res_main_v65
  generalize res_main_v62 V0 = x at e ⊢
  have hl := bgDraw_at b i
  have hd := bgDraws_lt b i
  unfold bgDraws at hd ⊢
  generalize lit2t (5000 * b.val + i.val) = w at hl hd ⊢
  rw [← masked_word _ w hd, ← hl, ← e]
  rfl

/-- A row of candidates and keys, read through both sorts: the candidates kept. -/
theorem keep_apply (p x y : Vec Ideal S16x5000 .i32) (c : Vec Ideal S16x5000 .i1) (b : Fin 16) (i : Fin 5000)
    (hp : p = (Host.sort2 S16x5000 1 comparator_i32_i32_d1 x y).2) (hy : y = iotaInDim S16x5000 32 1)
    (m : Fin 5000 → Bool) (draw rank : Fin 5000 → ℕ) (hc : c (ix2 b i) = BitVec.ofBool (m i))
    (hx : ∀ i, (x (ix2 b i)).toInt = if m i = true then -(draw i : ℤ) else 0) (hd : ∀ i, 1 ≤ draw i)
    (hr : ∀ i j, rank j < rank i ↔ draw i < draw j ∨ (draw i = draw j ∧ j < i)) :
    (andi c (cmpi .slt ((Host.sort2 S16x5000 1 comparator_i32_i32_d1 p y).2)
        (broadcastInDim S16x5000 ![] bcast_S_S16x5000 (constantI S_ 32 128#32))) : Vec Ideal S16x5000 .i1) (ix2 b i)
      = BitVec.ofBool (picked m rank i) := by
  have hr' := ranked (a := 16) (n := 5000) (by norm_num) x y (fun b i => by rw [hy]; rfl) b i
  rw [← kept m draw rank _ hx hd hr i, ← hc]
  refine congrArg (IntOp.andi (c (ix2 b i))) ?_
  refine congrArg (fun w => IntOp.cmpi .slt w 128#32) ?_
  rw [hp]
  exact hr'

/-- The foreground picks. -/
theorem v57_apply (b : Fin 16) (i : Fin 5000) :
    (res_main_v57 V0 : Vec Ideal S16x5000 .i1) (ix2 b i)
      = BitVec.ofBool (isFg (argBoxes V0 b) (argTruths V0 b) (fgRanks b) i) := by
  unfold res_main_v57
  exact keep_apply (res_main_v53 V0) (res_main_v52 V0) (res_main_call1_v0 V0) (res_main_v49 V0) b i rfl rfl
    (fun j => fg (best (argRow V0 b j))) (fgDraws b) (fgRanks b) (v49_apply V0 b i) (v52_apply V0 b) (fgDraws_pos b)
    (fgRanks_first b)

/-- The background picks. -/
theorem negatives_apply (b : Fin 16) (i : Fin 5000) :
    (andi (res_main_v62 V0) (cmpi .slt ((Host.sort2 S16x5000 1 comparator_i32_i32_d1 (res_main_v66 V0)
        (res_main_call3_v0 V0)).2) (broadcastInDim S16x5000 ![] bcast_S_S16x5000 (constantI S_ 32 128#32)))
        : Vec Ideal S16x5000 .i1) (ix2 b i)
      = BitVec.ofBool (isBg (argBoxes V0 b) (argTruths V0 b) (bgRanks b) i) :=
  keep_apply (res_main_v66 V0) (res_main_v65 V0) (res_main_call3_v0 V0) (res_main_v62 V0) b i rfl rfl
    (fun j => bg (best (argRow V0 b j))) (bgDraws b) (bgRanks b) (v62_apply V0 b i) (v65_apply V0 b) (bgDraws_pos b)
    (bgRanks_first b)

end Cert.ReferenceIdeal.Rows

end
-- ==== Proof.Takes.lean ====
module

public import proofs.«01_k».proof.Proof.Order
public import Idealize.ShloMosaic.Lib.Pointwise
public import Idealize.ShloMosaic.PureOps.ShapeOps
public import Idealize.ShloMosaic.Lib.ReduceAll

/-! One entry taken per row: `gather` with the image as a batching axis, the start index in range. -/

@[expose] public section

noncomputable section

namespace Cert.Takes

open Idealize.ShloMosaic

variable {α : Type} {A N R K : ℕ}

/-- The clamped start of a place in range. -/
theorem clamped (hN : N ≤ 2147483648) (p : Fin N) (w : BitVec 32) (hw : w = BitVec.ofNat 32 p.val) :
    min w.toInt.toNat (N - 1) = p.val := by
  have h := p.isLt
  rw [hw, Order.toInt_ofNat (by omega)]
  omega

/-- One word per row: operand `A × N`, one place per row of `A × R`. -/
abbrev wordDims (wf : GatherDims.WF ⟨2, ![A, N]⟩ ⟨3, ![A, R, 1]⟩ ⟨2, ![A, R]⟩ [] [1] [0] [1] [0] 2 ![1, 1]) :
    GatherDims ⟨2, ![A, N]⟩ ⟨3, ![A, R, 1]⟩ ⟨2, ![A, R]⟩ where
  offsetDims := []
  collapsedSliceDims := [1]
  operandBatchingDims := [0]
  startIndicesBatchingDims := [0]
  startIndexMap := [1]
  indexVectorDim := 2
  sliceSizes := ![1, 1]
  wf := wf

/-- The word taken for an entry is the operand's at the entry's place. -/
theorem word_apply (hN : N ≤ 2147483648)
    (wf : GatherDims.WF ⟨2, ![A, N]⟩ ⟨3, ![A, R, 1]⟩ ⟨2, ![A, R]⟩ [] [1] [0] [1] [0] 2 ![1, 1])
    (x : (⟨2, ![A, N]⟩ : Shape).Idx → α) (idx : IVec ⟨3, ![A, R, 1]⟩ 32) (b : Fin A) (i : Fin R) (p : Fin N)
    (hp : idx (ix3 b i 0) = BitVec.ofNat 32 p.val) :
    Host.gather (wordDims wf) x idx (ix2 b i) = x (ix2 b p) := by
  have hs : (wordDims wf).siIdx (ix2 b i) ⟨List.idxOf (1 : Fin 2) (wordDims wf).startIndexMap,
      List.idxOf_lt_length_iff.2 (List.mem_singleton.mpr rfl)⟩ = ix3 b i 0 := by
    funext a
    match a with
    | ⟨0, _⟩ => rfl
    | ⟨1, _⟩ => rfl
    | ⟨2, _⟩ => rfl
  unfold Host.gather
  refine congrArg x (funext fun a => Fin.ext ?_)
  show (wordDims wf).start (ix2 b i) idx a + (wordDims wf).batchCoord (ix2 b i) a + (wordDims wf).offCoord (ix2 b i) a = _
  have cases : a = 0 ∨ a = 1 := by
    match a with
    | ⟨0, _⟩ => exact Or.inl rfl
    | ⟨1, _⟩ => exact Or.inr rfl
  rcases cases with rfl | rfl
  · rw [GatherDims.start_batching _ _ _ _ (List.mem_singleton.mpr rfl), GatherDims.offCoord_eq_zero _ _ _
      (fun h => ((GatherDims.mem_sKept _ _).mp h).2 (List.mem_singleton.mpr rfl)), GatherDims.batchCoord,
      dif_pos (show (0 : Fin 2) ∈ (wordDims wf).operandBatchingDims from List.mem_singleton.mpr rfl), Nat.zero_add, Nat.add_zero]
    rfl
  · rw [GatherDims.batchCoord_eq_zero _ _ _ (fun h => absurd (List.mem_singleton.mp h) (by simp)),
      GatherDims.offCoord_eq_zero _ _ _ (fun h => ((GatherDims.mem_sKept _ _).mp h).1 (List.mem_singleton.mpr rfl)),
      GatherDims.start, dif_pos (show (1 : Fin 2) ∈ (wordDims wf).startIndexMap from List.mem_singleton.mpr rfl), Nat.add_zero]
    exact clamped hN p _ ((congrArg idx hs).trans hp)

/-- One row of `K` numbers per row: operand `A × N × K`, one place per row of `A × R`. -/
abbrev rowDims (wf : GatherDims.WF ⟨3, ![A, N, K]⟩ ⟨3, ![A, R, 1]⟩ ⟨3, ![A, R, K]⟩ [2] [1] [0] [1] [0] 2 ![1, 1, K]) :
    GatherDims ⟨3, ![A, N, K]⟩ ⟨3, ![A, R, 1]⟩ ⟨3, ![A, R, K]⟩ where
  offsetDims := [2]
  collapsedSliceDims := [1]
  operandBatchingDims := [0]
  startIndicesBatchingDims := [0]
  startIndexMap := [1]
  indexVectorDim := 2
  sliceSizes := ![1, 1, K]
  wf := wf

/-- The row taken for an entry is the operand's at the entry's place. -/
theorem row_apply (hN : N ≤ 2147483648)
    (wf : GatherDims.WF ⟨3, ![A, N, K]⟩ ⟨3, ![A, R, 1]⟩ ⟨3, ![A, R, K]⟩ [2] [1] [0] [1] [0] 2 ![1, 1, K])
    (x : (⟨3, ![A, N, K]⟩ : Shape).Idx → α) (idx : IVec ⟨3, ![A, R, 1]⟩ 32) (b : Fin A) (i : Fin R) (k : Fin K) (p : Fin N)
    (hp : idx (ix3 b i 0) = BitVec.ofNat 32 p.val) :
    Host.gather (rowDims wf) x idx (ix3 b i k) = x (ix3 b p k) := by
  have hs : (rowDims wf).siIdx (ix3 b i k) ⟨List.idxOf (1 : Fin 3) (rowDims wf).startIndexMap,
      List.idxOf_lt_length_iff.2 (List.mem_singleton.mpr rfl)⟩ = ix3 b i 0 := by
    funext a
    match a with
    | ⟨0, _⟩ => rfl
    | ⟨1, _⟩ => rfl
    | ⟨2, _⟩ => rfl
  unfold Host.gather
  refine congrArg x (funext fun a => Fin.ext ?_)
  show (rowDims wf).start (ix3 b i k) idx a + (rowDims wf).batchCoord (ix3 b i k) a
    + (rowDims wf).offCoord (ix3 b i k) a = _
  have cases : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases cases with rfl | rfl | rfl
  · rw [GatherDims.start_batching _ _ _ _ (List.mem_singleton.mpr rfl), GatherDims.offCoord_eq_zero _ _ _
      (fun h => ((GatherDims.mem_sKept _ _).mp h).2 (List.mem_singleton.mpr rfl)), GatherDims.batchCoord,
      dif_pos (show (0 : Fin 3) ∈ (rowDims wf).operandBatchingDims from List.mem_singleton.mpr rfl), Nat.zero_add, Nat.add_zero]
    rfl
  · rw [GatherDims.batchCoord_eq_zero _ _ _ (fun h => absurd (List.mem_singleton.mp h) (by simp)),
      GatherDims.offCoord_eq_zero _ _ _ (fun h => ((GatherDims.mem_sKept _ _).mp h).1 (List.mem_singleton.mpr rfl)),
      GatherDims.start, dif_pos (show (1 : Fin 3) ∈ (rowDims wf).startIndexMap from List.mem_singleton.mpr rfl), Nat.add_zero]
    exact clamped hN p _ ((congrArg idx hs).trans hp)
  · have hk : (2 : Fin 3) ∈ (rowDims wf).sKept := (GatherDims.mem_sKept _ _).mpr ⟨by simp, by simp⟩
    rw [GatherDims.batchCoord_eq_zero _ _ _ (fun h => absurd (List.mem_singleton.mp h) (by simp)),
      GatherDims.start, dif_neg (fun h => absurd (List.mem_singleton.mp h) (by simp)), GatherDims.offCoord,
      dif_pos hk, Nat.zero_add]
    rfl

end Cert.Takes

end
-- ==== Proof.RefMatch.lean ====
module

public import proofs.«01_k».proof.Proof.RefFirst
public import proofs.«01_k».proof.Proof.RefSelect
public import proofs.«01_k».proof.Proof.Takes

/-! The reference's matches: the matched box and the matched label of each region box, taken by the place of the first
    largest overlap. -/

set_option maxRecDepth 16384

@[expose] public section

noncomputable section

namespace Cert.ReferenceIdeal.Rows

open Idealize.ShloMosaic Idealize.ShloMosaic.TcCoe Idealize.ShloMosaic.Tactic
open Cert.ReferenceIdeal Cert.ReferenceIdeal.Gen Cert.ReferenceIdeal.Value Cert.Spec

/-- A place below 100 is not negative, so it is not moved. -/
theorem unmoved (p : Fin 100) (w : BitVec 32) (hw : w = BitVec.ofNat 32 p.val) :
    Scalar.select (IntOp.cmpi .slt w 0#32) (IntOp.addi w 100#32) w = BitVec.ofNat 32 p.val := by
  have h : IntOp.cmpi .slt w 0#32 = 0#1 := by
    show BitVec.ofBool (w.slt (BitVec.ofNat 32 0)) = _
    rw [hw, Threshold.slt_ofNat (by omega) (by norm_num), decide_eq_false (Nat.not_lt_zero _)]
    rfl
  rw [h]
  exact hw

/-- A place below 100 is in range. -/
theorem ranged (p : Fin 100) (w : BitVec 32) (hw : w = BitVec.ofNat 32 p.val) :
    IntOp.andi (IntOp.cmpi .sge w 0#32) (IntOp.cmpi .sle w 99#32) = 1#1 := by
  show IntOp.andi (BitVec.ofBool ((BitVec.ofNat 32 0).sle w)) (BitVec.ofBool (w.sle (BitVec.ofNat 32 99))) = _
  rw [hw, Threshold.sle_ofNat (by norm_num) (by omega), Threshold.sle_ofNat (by omega) (by norm_num),
    decide_eq_true (Nat.zero_le _), decide_eq_true (by omega)]
  rfl

/-- Places below 100 are in range everywhere. -/
theorem ranged_all (y : Vec Ideal S16x5000x1 .i32) (p : Fin 16 → Fin 5000 → Fin 100)
    (hy : ∀ b i, y (ix3 b i 0) = BitVec.ofNat 32 (p b i).val) (j : S16x5000.Idx) :
    Host.reduce IntOp.andi (andi (cmpi .sge y (broadcastInDim S16x5000x1 ![] bcast_S_S16x5000x1 (constantI S_ 32 0#32)))
        (cmpi .sle y (broadcastInDim S16x5000x1 ![0, 1, 2] bcast_S1x1x1_S16x5000x1_0_1_2
          (broadcastInDim S1x1x1 ![2] bcast_S1_S1x1x1_2 (constantI S1 32 99#32)))))
      (constantI S_ 1 1#1) reducesTo_S16x5000x1_S16x5000_d2 h_S_ j = 1#1 := by
  refine Host.reduce_andi_one _ _ _ _ _ rfl fun q => ?_
  have hq : q = ix3 (q 0) (q 1) 0 := by
    refine (eq_ix3 q).trans ?_
    congr 1
    exact Subsingleton.elim (α := Fin 1) _ _
  rw [hq]
  exact ranged (p (q 0) (q 1)) _ (hy (q 0) (q 1))

/-- A row laid out as a column. -/
theorem column (x : Vec Ideal S16x5000 .i32) (b : Fin 16) (i : Fin 5000) :
    (broadcastInDim S16x5000x1 ![0, 1] bcast_S16x5000_S16x5000x1_0_1 x : Vec Ideal S16x5000x1 .i32) (ix3 b i 0) = x (ix2 b i) := by
  pointwise []

/-- A row reshaped to a column. -/
theorem unsqueeze (x : Vec Ideal S16x5000 .i32) (b : Fin 16) (i : Fin 5000) :
    (shapeCast S16x5000x1 x shapeCasts_S16x5000_S16x5000x1 : Vec Ideal S16x5000x1 .i32) (ix3 b i 0) = x (ix2 b i) := by
  pointwise []

/-- A number chosen by a bit of its row, after a choice by another bit of its row. -/
theorem chosen (c q : Vec Ideal S16x5000 .i1) (g : Vec Ideal S16x5000x4 .f32) (w v : BitVec 32) (b : Fin 16) (i : Fin 5000) (k : Fin 4) :
    (select (broadcastInDim S16x5000x4 ![0, 1, 2] bcast_S16x5000x1_S16x5000x4_0_1_2
        (broadcastInDim S16x5000x1 ![0, 1] bcast_S16x5000_S16x5000x1_0_1 c))
      (select (broadcastInDim S16x5000x4 ![0, 1] bcast_S16x5000_S16x5000x4_0_1 q) g
        (broadcastInDim S16x5000x4 ![] bcast_S_S16x5000x4 (constant (F := Ideal) S_ .f32 w)))
      (broadcastInDim S16x5000x4 ![] bcast_S_S16x5000x4 (constant (F := Ideal) S_ .f32 v)) : Vec Ideal S16x5000x4 .f32) (ix3 b i k)
      = Scalar.select (c (ix2 b i)) (Scalar.select (q (ix2 b i)) (g (ix3 b i k)) (Ideal.ofBits .f32 w)) (Ideal.ofBits .f32 v) := by
  pointwise []

variable (V0 : Valuation τ sig (Elt Ideal))

/-- The place by which the box is taken. -/
theorem boxPlace_apply (b : Fin 16) (i : Fin 5000) :
    (res_main_call4_v4 V0 : Vec Ideal S16x5000x1 .i32) (ix3 b i 0) = BitVec.ofNat 32 (first (argRow V0 b i)).val := by
  have e := v46_apply V0 b i
  unfold res_main_call4_v4 res_main_v71
  generalize res_main_v46 V0 = x at e ⊢
  generalize first (argRow V0 b i) = p at e ⊢
  exact unmoved p _ ((column x b i).trans e)

/-- The place by which the label is taken. -/
theorem labelPlace_apply (b : Fin 16) (i : Fin 5000) :
    (res_main_call6_v5 V0 : Vec Ideal S16x5000x1 .i32) (ix3 b i 0) = BitVec.ofNat 32 (first (argRow V0 b i)).val := by
  have e := v46_apply V0 b i
  unfold res_main_call6_v5
  generalize res_main_v46 V0 = x at e ⊢
  generalize first (argRow V0 b i) = p at e ⊢
  exact (unsqueeze _ b i).trans (unmoved p _ e)

/-- The matched boxes of the foreground picks, zero elsewhere. -/
theorem v75_apply (b : Fin 16) (i : Fin 5000) (k : Fin 4) :
    (res_main_v75 V0 : Vec Ideal S16x5000x4 .f32) (ix3 b i k)
      = boxAt (argBoxes V0 b) (argTruths V0 b) (fgRanks b) i k := by
  have ec := v57_apply V0 b i
  have ep := boxPlace_apply V0
  unfold res_main_v75 boxAt
  generalize res_main_v57 V0 = c at ec ⊢
  generalize res_main_call4_v4 V0 = y at ep ⊢
  have er := ranged_all y (fun b i => first (argRow V0 b i)) ep (ix2 b i)
  have eg := Takes.row_apply (by norm_num) gather_S16x100x4_S16x5000x1_S16x5000x4_2_1_0_0_1_2_114_wf
    (V0 (Proc.devRef .tc main_arg1) : Vec Ideal S16x100x4 .f32) y b i k (first (argRow V0 b i)) (ep b i)
  refine (chosen c _ _ _ _ b i k).trans ?_
  rw [er, ec]
  generalize isFg (argBoxes V0 b) (argTruths V0 b) (fgRanks b) i = s
  cases s
  · exact Ideal.ofBits_zero_f32
  · exact eg

end Cert.ReferenceIdeal.Rows

end
-- ==== Proof.RefClass.lean ====
module

public import proofs.«01_k».proof.Proof.RefMatch

/-! The reference's class words and their one-hot rows. -/

set_option maxRecDepth 16384

@[expose] public section

noncomputable section

namespace Cert.ReferenceIdeal.Rows

open Idealize.ShloMosaic Idealize.ShloMosaic.TcCoe Idealize.ShloMosaic.Tactic
open Cert.ReferenceIdeal Cert.ReferenceIdeal.Gen Cert.ReferenceIdeal.Value Cert.Spec

/-- The one-hot row of an array of class words, at a class. -/
theorem oneHot (w : Vec Ideal S16x5000 .i32) (b : Fin 16) (i : Fin 5000) (a : Fin 21) :
    (cmpi .eq (broadcastInDim S16x5000x21 ![0, 1, 2] bcast_S16x5000x1_S16x5000x21_0_1_2
        (broadcastInDim S16x5000x1 ![0, 1] bcast_S16x5000_S16x5000x1_0_1 w))
      (broadcastInDim S16x5000x21 ![0, 1, 2] bcast_S1x1x21_S16x5000x21_0_1_2 (iotaInDim S1x1x21 32 2))
        : Vec Ideal S16x5000x21 .i1) (ix3 b i a)
      = IntOp.cmpi .eq (w (ix2 b i)) (BitVec.ofNat 32 a.val) := by
  pointwise []

/-- The number of a test of equality of words. -/
theorem hot_word (x y : BitVec 32) :
    (((IntOp.cmpi .eq x y).toNat : ℝ) : EReal) = if x = y then 1 else 0 := by
  have h : IntOp.cmpi .eq x y = BitVec.ofBool (decide (x = y)) := by
    show BitVec.ofBool (x == y) = _
    rw [Bool.beq_eq_decide_eq]
  rw [h]
  by_cases e : x = y
  · rw [decide_eq_true e, if_pos e]
    simp
  · rw [decide_eq_false e, if_neg e]
    simp

variable (V0 : Valuation τ sig (Elt Ideal))

/-- The class words of the reference. -/
def classWords : Vec Ideal S16x5000 .i32 :=
  addi (select (res_main_v57 V0) (select (Host.reduce IntOp.andi (andi (cmpi .sge (res_main_call6_v5 V0) (broadcastInDim S16x5000x1 ![] bcast_S_S16x5000x1 (constantI S_ 32 0#32))) (cmpi .sle (res_main_call6_v5 V0) (broadcastInDim S16x5000x1 ![0, 1, 2] bcast_S1x1x1_S16x5000x1_0_1_2 (broadcastInDim S1x1x1 ![2] bcast_S1_S1x1x1_2 (constantI S1 32 99#32))))) (constantI S_ 1 1#1) reducesTo_S16x5000x1_S16x5000_d2 h_S_) (Host.gather gather_S16x100_S16x5000x1_S16x5000_n_1_0_0_1_2_11 (V0 (Proc.devRef .tc main_arg2)) (res_main_call6_v5 V0)) (broadcastInDim S16x5000 ![] bcast_S_S16x5000 (constantI S_ 32 2147483648#32))) (broadcastInDim S16x5000 ![] bcast_S_S16x5000 (constantI S_ 32 4294967295#32))) (extui 32 (andi (res_main_v62 V0) (cmpi .slt ((Host.sort2 S16x5000 1 comparator_i32_i32_d1 (res_main_v66 V0) (res_main_call3_v0 V0)).2) (broadcastInDim S16x5000 ![] bcast_S_S16x5000 (constantI S_ 32 128#32)))) natLt_1_32)

/-- The class word of an entry. -/
theorem classWords_apply (b : Fin 16) (i : Fin 5000) :
    classWords V0 (ix2 b i)
      = classAt (argBoxes V0 b) (argTruths V0 b) (argLabels V0 b) (fgRanks b) (bgRanks b) i := by
  have ec := v57_apply V0 b i
  have en := negatives_apply V0 b i
  have ep := labelPlace_apply V0
  unfold classWords classAt
  generalize andi (res_main_v62 V0) _ = n at en ⊢
  generalize res_main_v57 V0 = c at ec ⊢
  generalize res_main_call6_v5 V0 = y at ep ⊢
  have er := ranged_all y (fun b i => first (argRow V0 b i)) ep (ix2 b i)
  have eg := Takes.word_apply (by norm_num) gather_S16x100_S16x5000x1_S16x5000_n_1_0_0_1_2_11_wf
    (V0 (Proc.devRef .tc main_arg2) : Vec Ideal S16x100 .i32) y b i (first (argRow V0 b i)) (ep b i)
  generalize Host.reduce IntOp.andi _ _ _ _ = q at er ⊢
  have el : Host.gather gather_S16x100_S16x5000x1_S16x5000_n_1_0_0_1_2_11 (V0 (Proc.devRef .tc main_arg2)) y (ix2 b i)
      = argLabels V0 b (first (argRow V0 b i)) := eg
  generalize Host.gather _ (V0 (Proc.devRef .tc main_arg2)) y = g at el ⊢
  show (Scalar.select (c (ix2 b i)) (Scalar.select (q (ix2 b i)) (g (ix2 b i)) 2147483648#32) 4294967295#32 : BitVec 32)
    + (n (ix2 b i)).setWidth 32 = _
  rw [er, ec, en, el]
  generalize isFg (argBoxes V0 b) (argTruths V0 b) (fgRanks b) i = s
  generalize isBg (argBoxes V0 b) (argTruths V0 b) (bgRanks b) i = r
  generalize argLabels V0 b (first (argRow V0 b i)) = l
  cases s <;> cases r <;> rfl

/-- The one-hot entry of a class. -/
theorem hot_apply (b : Fin 16) (i : Fin 5000) (a : Fin 21) :
    (uitofp (F := Ideal) .f32 (cmpi .eq (broadcastInDim S16x5000x21 ![0, 1, 2] bcast_S16x5000x1_S16x5000x21_0_1_2
        (broadcastInDim S16x5000x1 ![0, 1] bcast_S16x5000_S16x5000x1_0_1 (classWords V0)))
      (broadcastInDim S16x5000x21 ![0, 1, 2] bcast_S1x1x21_S16x5000x21_0_1_2 (iotaInDim S1x1x21 32 2)))
        : Vec Ideal S16x5000x21 .f32) (ix3 b i a)
      = hotAt (argBoxes V0 b) (argTruths V0 b) (argLabels V0 b) (fgRanks b) (bgRanks b) i a := by
  have e := classWords_apply V0 b i
  generalize classWords V0 = w at e ⊢
  have h := oneHot w b i a
  generalize cmpi .eq _ _ = p at h ⊢
  unfold hotAt
  rw [← e, ← hot_word, ← h]
  rfl

end Cert.ReferenceIdeal.Rows

end
-- ==== Proof.RefTargets.lean ====
module

public import proofs.«01_k».proof.Proof.RefClass

/-! The reference's regression targets: four numbers per region box, spread over the classes and masked by the one-hot
    row. -/

set_option maxRecDepth 16384

@[expose] public section

noncomputable section

namespace Cert.ReferenceIdeal.Rows

open Idealize.ShloMosaic Idealize.ShloMosaic.TcCoe Idealize.ShloMosaic.Tactic
open Cert.ReferenceIdeal Cert.ReferenceIdeal.Gen Cert.ReferenceIdeal.Value Cert.Spec

/-- The first coordinate of an array of boxes, as an array. -/
theorem side0 (x : Vec Ideal S16x5000x4 .f32) (b : Fin 16) (i : Fin 5000) :
    (shapeCast S16x5000 (extractStridedSlice S16x5000x1 ![0, 0, 0] x slices_S16x5000x4_S16x5000x1_0_0_0)
      shapeCasts_S16x5000x1_S16x5000 : Vec Ideal S16x5000 .f32) (ix2 b i) = x (ix3 b i 0) := by
  pointwise []

/-- The second coordinate of an array of boxes, as an array. -/
theorem side1 (x : Vec Ideal S16x5000x4 .f32) (b : Fin 16) (i : Fin 5000) :
    (shapeCast S16x5000 (extractStridedSlice S16x5000x1 ![0, 0, 1] x slices_S16x5000x4_S16x5000x1_0_0_1)
      shapeCasts_S16x5000x1_S16x5000 : Vec Ideal S16x5000 .f32) (ix2 b i) = x (ix3 b i 1) := by
  pointwise []

/-- The third coordinate of an array of boxes, as an array. -/
theorem side2 (x : Vec Ideal S16x5000x4 .f32) (b : Fin 16) (i : Fin 5000) :
    (shapeCast S16x5000 (extractStridedSlice S16x5000x1 ![0, 0, 2] x slices_S16x5000x4_S16x5000x1_0_0_2)
      shapeCasts_S16x5000x1_S16x5000 : Vec Ideal S16x5000 .f32) (ix2 b i) = x (ix3 b i 2) := by
  pointwise []

/-- The fourth coordinate of an array of boxes, as an array. -/
theorem side3 (x : Vec Ideal S16x5000x4 .f32) (b : Fin 16) (i : Fin 5000) :
    (shapeCast S16x5000 (extractStridedSlice S16x5000x1 ![0, 0, 3] x slices_S16x5000x4_S16x5000x1_0_0_3)
      shapeCasts_S16x5000x1_S16x5000 : Vec Ideal S16x5000 .f32) (ix2 b i) = x (ix3 b i 3) := by
  pointwise []

/-- A choice by whether a number is zero. -/
theorem zero_choice (x d y : EReal) :
    Scalar.select (BitVec.ofBool (decide (x = Ideal.ofBits .f32 0x00000000#32))) d y = if x = 0 then d else y := by
  rw [Ideal.ofBits_zero_f32]
  by_cases h : x = 0
  · rw [decide_eq_true h, if_pos h]
    rfl
  · rw [decide_eq_false h, if_neg h]
    rfl

/-- A constant where an array is zero, another array elsewhere. -/
theorem replaced (w y : Vec Ideal S16x5000 .f32) (c : BitVec 32) (j : S16x5000.Idx) :
    (select (cmpf .oeq w (broadcastInDim S16x5000 ![] bcast_S_S16x5000 (constant (F := Ideal) S_ .f32 0x00000000#32)))
      (broadcastInDim S16x5000 ![] bcast_S_S16x5000 (id (constant (F := Ideal) S_ .f32 c))) y : Vec Ideal S16x5000 .f32) j
      = if w j = 0 then Ideal.ofBits .f32 c else y j :=
  zero_choice (w j) (Ideal.ofBits .f32 c) (y j)

/-- The target of a centre. -/
theorem shift (w g r v s : Vec Ideal S16x5000 .f32) (j : S16x5000.Idx) :
    (select (cmpf .oeq w (broadcastInDim S16x5000 ![] bcast_S_S16x5000 (constant (F := Ideal) S_ .f32 0x00000000#32)))
      (broadcastInDim S16x5000 ![] bcast_S_S16x5000 (id (constant (F := Ideal) S_ .f32 0x00000000#32)))
      (Host.divf (subf (addf g (mulf (broadcastInDim S16x5000 ![] bcast_S_S16x5000 (constant (F := Ideal) S_ .f32 0x3F000000#32)) w))
        (addf r (mulf (broadcastInDim S16x5000 ![] bcast_S_S16x5000 (constant (F := Ideal) S_ .f32 0x3F000000#32)) v))) s)
        : Vec Ideal S16x5000 .f32) j
      = if w j = 0 then 0 else Ideal.div ((g j + half * w j) - (r j + half * v j)) (s j) := by
  refine (replaced w _ _ j).trans ?_
  rw [Ideal.ofBits_zero_f32]
  rfl

/-- The target of a size. -/
theorem scale (w s : Vec Ideal S16x5000 .f32) (j : S16x5000.Idx) :
    (select (cmpf .oeq w (broadcastInDim S16x5000 ![] bcast_S_S16x5000 (constant (F := Ideal) S_ .f32 0x00000000#32)))
      (broadcastInDim S16x5000 ![] bcast_S_S16x5000 (id (constant (F := Ideal) S_ .f32 0x00000000#32)))
      (Host.log (Host.divf (select (cmpf .oeq w (broadcastInDim S16x5000 ![] bcast_S_S16x5000 (constant (F := Ideal) S_ .f32 0x00000000#32)))
        (broadcastInDim S16x5000 ![] bcast_S_S16x5000 (id (constant (F := Ideal) S_ .f32 0x3F800000#32))) w) s))
        : Vec Ideal S16x5000 .f32) j
      = if w j = 0 then 0 else Ideal.log (Ideal.div (safe 1 (w j)) (s j)) := by
  refine (replaced w _ _ j).trans ?_
  rw [Ideal.ofBits_zero_f32]
  have h := replaced w w 0x3F800000#32 j
  rw [Ideal.ofBits_one_f32] at h
  refine congrArg (fun z => if w j = 0 then (0 : EReal) else z) ?_
  exact congrArg (fun z => Ideal.log (Ideal.div z (s j))) h

/-- A one-hot array repeated four times along a new axis. -/
theorem repeated (h : Vec Ideal S16x5000x21 .f32) (b : Fin 16) (i : Fin 5000) (a : Fin 21) (k : Fin 4) :
    (shapeCast S16x5000x21x4 (broadcastInDim S1x16x1x5000x1x21x4x1 ![0, 1, 2, 3, 4, 5, 6, 7]
        bcast_S1x16x1x5000x1x21x1x1_S1x16x1x5000x1x21x4x1_0_1_2_3_4_5_6_7
        (shapeCast S1x16x1x5000x1x21x1x1 (broadcastInDim S16x5000x21x1 ![0, 1, 2] bcast_S16x5000x21_S16x5000x21x1_0_1_2 h)
          shapeCasts_S16x5000x21x1_S1x16x1x5000x1x21x1x1))
      shapeCasts_S1x16x1x5000x1x21x4x1_S16x5000x21x4 : Vec Ideal S16x5000x21x4 .f32) (ix4 b i a k) = h (ix3 b i a) := by
  pointwise []

/-- An array of four numbers per box, repeated for every class. -/
theorem spread (d : Vec Ideal S16x5000x4 .f32) (b : Fin 16) (i : Fin 5000) (a : Fin 21) (k : Fin 4) :
    (broadcastInDim S16x5000x21x4 ![0, 1, 2, 3] bcast_S16x5000x1x4_S16x5000x21x4_0_1_2_3
      (broadcastInDim S16x5000x1x4 ![0, 1, 3] bcast_S16x5000x4_S16x5000x1x4_0_1_3 d) : Vec Ideal S16x5000x21x4 .f32) (ix4 b i a k)
      = d (ix3 b i k) := by
  pointwise []

/-- The four divisors of the targets. -/
theorem divisors (b : Fin 16) (i : Fin 5000) (k : Fin 4) :
    (broadcastInDim S16x5000x4 ![0, 1, 2] bcast_S1x1x4_S16x5000x4_0_1_2 (broadcastInDim S1x1x4 ![2] bcast_S4_S1x1x4_2
      (fun i => FloatOps.ofBits (F := Ideal) .f32 (lit0 (S4.rowMajor i)))) : Vec Ideal S16x5000x4 .f32) (ix3 b i k)
      = (![tenth, tenth, fifth, fifth] : Fin 4 → EReal) k := by
  fin_cases k <;> rfl

/-- Four arrays side by side. -/
theorem four (p q r s : Vec Ideal S16x5000 .f32) (b : Fin 16) (i : Fin 5000) (k : Fin 4) :
    (concatenate S16x5000x4 2 [⟨S16x5000x1, broadcastInDim S16x5000x1 ![0, 1] bcast_S16x5000_S16x5000x1_0_1 p⟩,
      ⟨S16x5000x1, broadcastInDim S16x5000x1 ![0, 1] bcast_S16x5000_S16x5000x1_0_1 q⟩,
      ⟨S16x5000x1, broadcastInDim S16x5000x1 ![0, 1] bcast_S16x5000_S16x5000x1_0_1 r⟩,
      ⟨S16x5000x1, broadcastInDim S16x5000x1 ![0, 1] bcast_S16x5000_S16x5000x1_0_1 s⟩]
      concatenates_S16x5000x1_S16x5000x1_S16x5000x1_S16x5000x1_S16x5000x4_d2 : Vec Ideal S16x5000x4 .f32) (ix3 b i k)
      = (![p (ix2 b i), q (ix2 b i), r (ix2 b i), s (ix2 b i)] : Fin 4 → EReal) k := by
  pointwise []
  fin_vals k with hk
  all_goals simp only [hk, Nat.reduceSub, Nat.reduceLT, ↓reduceDIte]
  · rw [show k = 0 from Fin.ext hk]; rfl
  · rw [show k = 1 from Fin.ext hk]; rfl
  · rw [show k = 2 from Fin.ext hk]; rfl
  · rw [show k = 3 from Fin.ext hk]; rfl

/-- Four arrays side by side, divided, spread over the classes and masked. -/
theorem product (h : Vec Ideal S16x5000x21 .f32) (p q r s : Vec Ideal S16x5000 .f32) (b : Fin 16) (i : Fin 5000)
    (a : Fin 21) (k : Fin 4) :
    (mulf (shapeCast S16x5000x21x4 (broadcastInDim S1x16x1x5000x1x21x4x1 ![0, 1, 2, 3, 4, 5, 6, 7]
        bcast_S1x16x1x5000x1x21x1x1_S1x16x1x5000x1x21x4x1_0_1_2_3_4_5_6_7
        (shapeCast S1x16x1x5000x1x21x1x1 (broadcastInDim S16x5000x21x1 ![0, 1, 2] bcast_S16x5000x21_S16x5000x21x1_0_1_2 h)
          shapeCasts_S16x5000x21x1_S1x16x1x5000x1x21x1x1))
      shapeCasts_S1x16x1x5000x1x21x4x1_S16x5000x21x4)
      (broadcastInDim S16x5000x21x4 ![0, 1, 2, 3] bcast_S16x5000x1x4_S16x5000x21x4_0_1_2_3
      (broadcastInDim S16x5000x1x4 ![0, 1, 3] bcast_S16x5000x4_S16x5000x1x4_0_1_3
      (Host.divf (concatenate S16x5000x4 2 [⟨S16x5000x1, broadcastInDim S16x5000x1 ![0, 1] bcast_S16x5000_S16x5000x1_0_1 p⟩,
      ⟨S16x5000x1, broadcastInDim S16x5000x1 ![0, 1] bcast_S16x5000_S16x5000x1_0_1 q⟩,
      ⟨S16x5000x1, broadcastInDim S16x5000x1 ![0, 1] bcast_S16x5000_S16x5000x1_0_1 r⟩,
      ⟨S16x5000x1, broadcastInDim S16x5000x1 ![0, 1] bcast_S16x5000_S16x5000x1_0_1 s⟩]
      concatenates_S16x5000x1_S16x5000x1_S16x5000x1_S16x5000x1_S16x5000x4_d2)
      (broadcastInDim S16x5000x4 ![0, 1, 2] bcast_S1x1x4_S16x5000x4_0_1_2 (broadcastInDim S1x1x4 ![2] bcast_S4_S1x1x4_2
      (fun i => FloatOps.ofBits (F := Ideal) .f32 (lit0 (S4.rowMajor i))))))))
      : Vec Ideal S16x5000x21x4 .f32) (ix4 b i a k)
      = h (ix3 b i a) * Ideal.div ((![p (ix2 b i), q (ix2 b i), r (ix2 b i), s (ix2 b i)] : Fin 4 → EReal) k)
          ((![tenth, tenth, fifth, fifth] : Fin 4 → EReal) k) := by
  refine congrArg₂ (fun x y : EReal => x * y) (repeated h b i a k) ((spread _ b i a k).trans ?_)
  exact congrArg₂ Ideal.div (four p q r s b i k) (divisors b i k)

variable (V0 : Valuation τ sig (Elt Ideal))

/-- A difference of arrays, at an index. -/
theorem difference (x y : FVec Ideal S16x5000 .f32) (j : S16x5000.Idx) :
    (subf x y : FVec Ideal S16x5000 .f32) j = (x j - y j : EReal) := rfl

/-- The widths of the region boxes. -/
theorem v84_apply (b : Fin 16) (i : Fin 5000) :
    (res_main_v84 V0 : Vec Ideal S16x5000 .f32) (ix2 b i) = argBoxes V0 b i 3 - argBoxes V0 b i 1 := by
  unfold argBoxes res_main_v84
  generalize (V0 (Proc.devRef .tc main_arg0) : Vec Ideal S16x5000x4 .f32) = x
  unfold boxes
  rw [← side3 x b i, ← side1 x b i]
  exact difference _ _ _

/-- The heights of the region boxes. -/
theorem v89_apply (b : Fin 16) (i : Fin 5000) :
    (res_main_v89 V0 : Vec Ideal S16x5000 .f32) (ix2 b i) = argBoxes V0 b i 2 - argBoxes V0 b i 0 := by
  unfold argBoxes res_main_v89
  generalize (V0 (Proc.devRef .tc main_arg0) : Vec Ideal S16x5000x4 .f32) = x
  unfold boxes
  rw [← side2 x b i, ← side0 x b i]
  exact difference _ _ _

/-- The widths of the matched boxes. -/
theorem v104_apply (b : Fin 16) (i : Fin 5000) :
    (res_main_v104 V0 : Vec Ideal S16x5000 .f32) (ix2 b i)
      = boxAt (argBoxes V0 b) (argTruths V0 b) (fgRanks b) i 3 - boxAt (argBoxes V0 b) (argTruths V0 b) (fgRanks b) i 1 := by
  rw [← v75_apply V0 b i 3, ← v75_apply V0 b i 1]
  unfold res_main_v104
  generalize res_main_v75 V0 = x
  rw [← side3 x b i, ← side1 x b i]
  exact difference _ _ _

/-- The heights of the matched boxes. -/
theorem v109_apply (b : Fin 16) (i : Fin 5000) :
    (res_main_v109 V0 : Vec Ideal S16x5000 .f32) (ix2 b i)
      = boxAt (argBoxes V0 b) (argTruths V0 b) (fgRanks b) i 2 - boxAt (argBoxes V0 b) (argTruths V0 b) (fgRanks b) i 0 := by
  rw [← v75_apply V0 b i 2, ← v75_apply V0 b i 0]
  unfold res_main_v109
  generalize res_main_v75 V0 = x
  rw [← side2 x b i, ← side0 x b i]
  exact difference _ _ _

/-- The widths of the region boxes as divisors. -/
theorem v122_apply (b : Fin 16) (i : Fin 5000) :
    (res_main_v122 V0 : Vec Ideal S16x5000 .f32) (ix2 b i) = safe thousandth (argBoxes V0 b i 3 - argBoxes V0 b i 1) := by
  rw [← v84_apply V0 b i]
  unfold res_main_v122
  generalize res_main_v84 V0 = w
  exact replaced w w _ _

/-- The heights of the region boxes as divisors. -/
theorem v125_apply (b : Fin 16) (i : Fin 5000) :
    (res_main_v125 V0 : Vec Ideal S16x5000 .f32) (ix2 b i) = safe thousandth (argBoxes V0 b i 2 - argBoxes V0 b i 0) := by
  rw [← v89_apply V0 b i]
  unfold res_main_v125
  generalize res_main_v89 V0 = w
  exact replaced w w _ _

/-- The four targets of a box, from its sides and its matched box's. -/
theorem delta_eq (r g : Fin 4 → EReal) (k : Fin 4) (p0 p1 q0 q1 u v w h s t : EReal) (hp0 : p0 = g 0) (hp1 : p1 = g 1)
    (hq0 : q0 = r 0) (hq1 : q1 = r 1) (hu : u = r 3 - r 1) (hv : v = r 2 - r 0) (hh : h = g 3 - g 1) (hw : w = g 2 - g 0)
    (ht : t = safe thousandth (r 3 - r 1)) (hs : s = safe thousandth (r 2 - r 0)) :
    Ideal.div ((![if w = 0 then 0 else Ideal.div ((p0 + half * w) - (q0 + half * v)) s,
        if h = 0 then 0 else Ideal.div ((p1 + half * h) - (q1 + half * u)) t,
        if w = 0 then 0 else Ideal.log (Ideal.div (safe 1 w) s),
        if h = 0 then 0 else Ideal.log (Ideal.div (safe 1 h) t)] : Fin 4 → EReal) k)
      ((![tenth, tenth, fifth, fifth] : Fin 4 → EReal) k) = delta r g k := by
  subst hp0 hp1 hq0 hq1 hu hv hh hw ht hs
  fin_cases k <;> rfl

/-- The masked targets of the reference. -/
theorem v167_apply (b : Fin 16) (i : Fin 5000) (a : Fin 21) (k : Fin 4) :
    (res_main_v167 V0 : Vec Ideal S16x5000x21x4 .f32) (ix4 b i a k)
      = deltaAt (argBoxes V0 b) (argTruths V0 b) (argLabels V0 b) (fgRanks b) (bgRanks b) i a k := by
  have eh := hot_apply V0 b i a
  have e75 := v75_apply V0 b i
  have e84 := v84_apply V0 b i
  have e89 := v89_apply V0 b i
  have e104 := v104_apply V0 b i
  have e109 := v109_apply V0 b i
  have e122 := v122_apply V0 b i
  have e125 := v125_apply V0 b i
  unfold classWords at eh
  unfold res_main_v167 deltaAt
  refine (product _ _ _ _ _ b i a k).trans ?_
  refine congrArg₂ (fun x y : EReal => x * y) eh ?_
  generalize res_main_v75 V0 = x75 at e75 ⊢
  generalize res_main_v84 V0 = x84 at e84 ⊢
  generalize res_main_v89 V0 = x89 at e89 ⊢
  generalize res_main_v104 V0 = x104 at e104 ⊢
  generalize res_main_v109 V0 = x109 at e109 ⊢
  generalize res_main_v122 V0 = x122 at e122 ⊢
  generalize res_main_v125 V0 = x125 at e125 ⊢
  rw [shift, shift, scale, scale]
  exact delta_eq _ _ k _ _ _ _ _ _ _ _ _ _ ((side0 x75 b i).trans (e75 0)) ((side1 x75 b i).trans (e75 1))
    (side0 _ b i) (side1 _ b i) e84 e89 e104 e109 e122 e125

/-- The last two axes laid out as one. -/
theorem flat (x : Vec Ideal S16x5000x21x4 .f32) (b : Fin 16) (i : Fin 5000) (j : Fin 84) :
    (shapeCast S16x5000x84 x shapeCasts_S16x5000x21x4_S16x5000x84 : Vec Ideal S16x5000x84 .f32) (ix3 b i j)
      = x (ix4 b i ⟨j.val / 4, by omega⟩ ⟨j.val % 4, by omega⟩) := by
  pointwise []

end Cert.ReferenceIdeal.Rows

end
-- ==== Proof.RefOut.lean ====
module

public import proofs.«01_k».proof.Proof.RefTargets

/-! The reference's two results. -/

set_option maxRecDepth 16384

@[expose] public section

noncomputable section

namespace Cert.ReferenceIdeal.Rows

open Idealize.ShloMosaic Idealize.ShloMosaic.TcCoe Idealize.ShloMosaic.Tactic
open Cert.ReferenceIdeal Cert.ReferenceIdeal.Gen Cert.ReferenceIdeal.Value Cert.Spec

variable (V0 : Valuation τ sig (Elt Ideal))

/-- The reference's first result is the targets of every image. -/
theorem out_deltas :
    (shapeCast S16x5000x84 (res_main_v167 V0) shapeCasts_S16x5000x21x4_S16x5000x84 : Vec Ideal S16x5000x84 .f32)
      = deltas (V0 (Proc.devRef .tc main_arg0)) (V0 (Proc.devRef .tc main_arg1)) (V0 (Proc.devRef .tc main_arg2)) := by
  funext j
  have h := v167_apply V0
  rw [eq_ix3 j]
  generalize res_main_v167 V0 = x at h ⊢
  exact (flat x (j 0) (j 1) (j 2)).trans (h _ _ _ _)

/-- The reference's second result is the classes of every image. -/
theorem out_hots :
    (uitofp (F := Ideal) .f32 (cmpi .eq (broadcastInDim S16x5000x21 ![0, 1, 2] bcast_S16x5000x1_S16x5000x21_0_1_2
        (broadcastInDim S16x5000x1 ![0, 1] bcast_S16x5000_S16x5000x1_0_1 (classWords V0)))
      (broadcastInDim S16x5000x21 ![0, 1, 2] bcast_S1x1x21_S16x5000x21_0_1_2 (iotaInDim S1x1x21 32 2)))
        : Vec Ideal S16x5000x21 .f32)
      = hots (V0 (Proc.devRef .tc main_arg0)) (V0 (Proc.devRef .tc main_arg1)) (V0 (Proc.devRef .tc main_arg2)) := by
  funext j
  have h := hot_apply V0 (j 0) (j 1) (j 2)
  generalize (uitofp (F := Ideal) .f32 _ : Vec Ideal S16x5000x21 .f32) = x at h ⊢
  exact (congrArg x (eq_ix3 j)).trans h

end Cert.ReferenceIdeal.Rows

end
-- ==== Proof.lean ====
module

public import proofs.«01_k».proof.Defs
public import proofs.«01_k».proof.Proof.Gen.Kernel.Frame
public import proofs.«01_k».proof.Proof.Gen.KernelIdeal.Frame
public import proofs.«01_k».proof.Proof.KernelHost
public import proofs.«01_k».proof.Proof.RefOut
public import Idealize.ShloMosaic.Lib.Quiescent

/-! The certificate: the three programs run and leave their arguments alone, and the kernel and the reference end with
    equal results. -/

set_option maxRecDepth 16384

@[expose] public section

noncomputable section

namespace Cert.Proof

open Idealize.ShloMosaic Idealize.ShloMosaic.TcCoe Idealize.SL.Sem Cert.Spec

/-- The reference runs, leaves its arguments alone and ends quiescent. -/
theorem reference_frame : quiescent_ReferenceIdeal (hReferenceIdeal := Cert.ReferenceIdeal.Gen.facts) :=
  fun m ρ _ => (θ_run Cert.ReferenceIdeal.defs _ _).mono
    (fun r h => ⟨fun c => (h c).2.2, sem_eq_zero_of_no_sems (by decide) r.2⟩)
    (Cert.ReferenceIdeal.Value.run (F := Ideal) m ρ)

/-- The kernel and the reference end with equal results, as extended reals. -/
theorem algebraic : algebraic_KernelIdeal_ReferenceIdeal (hKernelIdeal := Cert.KernelIdeal.Gen.facts)
    (hReferenceIdeal := Cert.ReferenceIdeal.Gen.facts) := by
  intro m ρ m' ρ' _ hagree
  refine ⟨_, _, (θ_run Cert.KernelIdeal.defs _ _).mono (fun r h c =>
      ⟨(h c).1.trans (Cert.KernelIdeal.Block.final5 m fgRanks_lt bgRanks_lt c), (h c).2.1.trans (Cert.KernelIdeal.Block.final6 m fgRanks_lt bgRanks_lt c), (h c).2.2⟩)
    (Cert.KernelIdeal.Value.run_blocks m ρ), ?_⟩
  refine (θ_run Cert.ReferenceIdeal.defs _ _).mono (fun r h c => ?_) (Cert.ReferenceIdeal.Value.run (F := Ideal) m' ρ')
  obtain ⟨h0, h1, h2⟩ := hagree c
  refine ⟨(h c).1.trans ?_, (h c).2.1.trans ?_, (h c).2.2⟩
  · rw [← h0, ← h1, ← h2]
    exact Cert.ReferenceIdeal.Rows.out_deltas (StableHlo.launchContents m' c)
  · rw [← h0, ← h1, ← h2]
    exact Cert.ReferenceIdeal.Rows.out_hots (StableHlo.launchContents m' c)

/-- Everything the certificate claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial,
    algebraic⟩

end Cert.Proof

end
